-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![2048]⟩ (Layout.meshBlock [2, 4, 4] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [2, 4, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = Layout.blockN ⟨2, ![512, 512]⟩ ⟨2, ![2048, 512]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S1x512 : Shape := ⟨2, ![1, 512]⟩
abbrev S8 : Shape := ⟨1, ![8]⟩
abbrev S8x1 : Shape := ⟨2, ![8, 1]⟩
abbrev S8x512 : Shape := ⟨2, ![8, 512]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  natLt_1_32 : 1 < 32
  reducesTo_S8x512_S8_d1 : S8x512.ReducesTo [1] S8
  h_S_ : 0 < S_.numel
  bcast_S_S8 : S_.BroadcastsInDim S8 (![] : Fin 0 → Fin S8.rank)

variable [Facts]

def fn {F : FTy → Type} [FloatOps F] (main_arg0 : FVec F S512x512 .f32) (main_arg1 : IVec S512 32) (main_arg2 : FVec F S2x512x1024 .f32) (main_arg3 : FVec F S2x1024x512 .f32) : IVec S8 1 :=
  let main_v0 : IVec S1x512 32 := broadcastInDim S1x512 ![1] bcast_S512_S1x512_1 main_arg1
  let main_v1 : IVec S8 32 := iotaInDim S8 32 0
  let main_v2 : IVec S8x1 32 := broadcastInDim S8x1 ![0] bcast_S8_S8x1_0 main_v1
  let main_v3 : IVec S8x512 32 := broadcastInDim S8x512 ![0, 1] bcast_S1x512_S8x512_0_1 main_v0
  let main_v4 : IVec S8x512 32 := broadcastInDim S8x512 ![0, 1] bcast_S8x1_S8x512_0_1 main_v2
  let main_v5 : IVec S8x512 1 := cmpi .eq main_v3 main_v4
  let main_v6 : IVec S8x512 32 := (extui 32 · natLt_1_32) main_v5
  let main_c : IVec S_ 32 := constantI S_ 32 0#32
  let main_v7 : IVec S8 32 := (fun x v => Host.reduce IntOp.addi x v reducesTo_S8x512_S8_d1 h_S_) main_v6 main_c
  let main_c_0 : IVec S_ 32 := constantI S_ 32 80#32
  let main_v8 : IVec S8 32 := broadcastInDim S8 ![] bcast_S_S8 main_c_0
  let main_v9 : IVec S8 1 := cmpi .sle main_v7 main_v8
  main_v9
-- ==== Pre_fits_ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S1x2048 : Shape := ⟨2, ![1, 2048]⟩
abbrev S8 : Shape := ⟨1, ![8]⟩
abbrev S8x1 : Shape := ⟨2, ![8, 1]⟩
abbrev S8x2048 : Shape := ⟨2, ![8, 2048]⟩
abbrev S_ : Shape := ⟨0, ![]⟩

class Facts : Prop where
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  natLt_1_32 : 1 < 32
  reducesTo_S8x2048_S8_d1 : S8x2048.ReducesTo [1] S8
  h_S_ : 0 < S_.numel
  bcast_S_S8 : S_.BroadcastsInDim S8 (![] : Fin 0 → Fin S8.rank)

variable [Facts]

def fn {F : FTy → Type} [FloatOps F] (main_arg0 : FVec F S2048x512 .f32) (main_arg1 : IVec S2048 32) (main_arg2 : FVec F S8x512x1024 .f32) (main_arg3 : FVec F S8x1024x512 .f32) : IVec S8 1 :=
  let main_v0 : IVec S1x2048 32 := broadcastInDim S1x2048 ![1] bcast_S2048_S1x2048_1 main_arg1
  let main_v1 : IVec S8 32 := iotaInDim S8 32 0
  let main_v2 : IVec S8x1 32 := broadcastInDim S8x1 ![0] bcast_S8_S8x1_0 main_v1
  let main_v3 : IVec S8x2048 32 := broadcastInDim S8x2048 ![0, 1] bcast_S1x2048_S8x2048_0_1 main_v0
  let main_v4 : IVec S8x2048 32 := broadcastInDim S8x2048 ![0, 1] bcast_S8x1_S8x2048_0_1 main_v2
  let main_v5 : IVec S8x2048 1 := cmpi .eq main_v3 main_v4
  let main_v6 : IVec S8x2048 32 := (extui 32 · natLt_1_32) main_v5
  let main_c : IVec S_ 32 := constantI S_ 32 0#32
  let main_v7 : IVec S8 32 := (fun x v => Host.reduce IntOp.addi x v reducesTo_S8x2048_S8_d1 h_S_) main_v6 main_c
  let main_c_0 : IVec S_ 32 := constantI S_ 32 80#32
  let main_v8 : IVec S8 32 := broadcastInDim S8 ![] bcast_S_S8 main_c_0
  let main_v9 : IVec S8 1 := cmpi .sle main_v7 main_v8
  main_v9
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S1x512 : Shape := ⟨2, ![1, 512]⟩
abbrev S_ : Shape := ⟨0, ![]⟩
abbrev S1x1x512 : Shape := ⟨3, ![1, 1, 512]⟩
abbrev S8 : Shape := ⟨1, ![8]⟩
abbrev S8x1x1 : Shape := ⟨3, ![8, 1, 1]⟩
abbrev S8x1x512 : Shape := ⟨3, ![8, 1, 512]⟩
abbrev S80 : Shape := ⟨1, ![80]⟩
abbrev S1x80x1 : Shape := ⟨3, ![1, 80, 1]⟩
abbrev S1x80x512 : Shape := ⟨3, ![1, 80, 512]⟩
abbrev S8x80x512 : Shape := ⟨3, ![8, 80, 512]⟩
abbrev S4x160x512 : Shape := ⟨3, ![4, 160, 512]⟩
abbrev S3x160x512 : Shape := ⟨3, ![3, 160, 512]⟩
abbrev S3 : Shape := ⟨1, ![3]⟩
abbrev S2 : Shape := ⟨1, ![2]⟩
abbrev S1 : Shape := ⟨1, ![1]⟩
abbrev S1x160x512 : Shape := ⟨3, ![1, 160, 512]⟩
abbrev S160x512 : Shape := ⟨2, ![160, 512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S80x512 : Shape := ⟨2, ![80, 512]⟩
abbrev S80x1024 : Shape := ⟨2, ![80, 1024]⟩

abbrev nBuf : Space → Nat
  | .hbm => 38
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S2x512x1024, .f32⟩
  | .hbm, ⟨3, _⟩ => ⟨S2x1024x512, .f32⟩
  | .hbm, ⟨4, _⟩ => ⟨S512x1, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S512, .i32⟩
  | .hbm, ⟨10, _⟩ => ⟨S512x1, .i32⟩
  | .hbm, ⟨11, _⟩ => ⟨S512, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S1x1x512, .i32⟩
  | .hbm, ⟨21, _⟩ => ⟨S8, .i32⟩
  | .hbm, ⟨22, _⟩ => ⟨S8x1x1, .i32⟩
  | .hbm, ⟨23, _⟩ => ⟨S8x1x512, .i32⟩
  | .hbm, ⟨24, _⟩ => ⟨S8x1x512, .i32⟩
  | .hbm, ⟨25, _⟩ => ⟨S8x1x512, .i1⟩
  | .hbm, ⟨26, _⟩ => ⟨S1x1x512, .i32⟩
  | .hbm, ⟨27, _⟩ => ⟨S80, .i32⟩
  | .hbm, ⟨28, _⟩ => ⟨S1x80x1, .i32⟩
  | .hbm, ⟨29, _⟩ => ⟨S1x80x512, .i32⟩
  | .hbm, ⟨30, _⟩ => ⟨S1x80x512, .i32⟩
  | .hbm, ⟨31, _⟩ => ⟨S1x80x512, .i1⟩
  | .hbm, ⟨32, _⟩ => ⟨S8x80x512, .i1⟩
  | .hbm, ⟨33, _⟩ => ⟨S8x80x512, .i1⟩
  | .hbm, ⟨34, _⟩ => ⟨S8x80x512, .i1⟩
  | .hbm, ⟨35, _⟩ => ⟨S8x80x512, .bf16⟩
  | .hbm, ⟨36, _⟩ => ⟨S4x160x512, .bf16⟩
  | .hbm, ⟨37, _⟩ => ⟨S512x512, .f32⟩
  | .local _ .vmem, ⟨0, _⟩ => ⟨S512x512, .f32⟩
  | .local _ .vmem, ⟨1, _⟩ => ⟨S4x160x512, .bf16⟩
  | .local _ .vmem, ⟨2, _⟩ => ⟨S512x512, .f32⟩
  | .local _ .vmem, ⟨3, _⟩ => ⟨S3x160x512, .bf16⟩
  | .local _ .vmem, ⟨4, _⟩ => ⟨S3x160x512, .bf16⟩
  | .local _ .vmem, ⟨5, _⟩ => ⟨S3x160x512, .bf16⟩
  | .local _ .vmem, ⟨6, _⟩ => ⟨S3x160x512, .bf16⟩
  | .local _ .vmem, ⟨7, _⟩ => ⟨S2x512x1024, .f32⟩
  | .local _ .vmem, ⟨8, _⟩ => ⟨S2x1024x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v16 : BitVec 32 := Scalar.muli v2 c16_i32_6
  let v17 : BitVec 32 := Scalar.addi c0_i32_7 v16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v18 : BitVec 32 := Scalar.muli v5 c4_i32_8
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v14 : BitVec 32 := Scalar.addi v8 c1_i32_3
  let c4_i32_4 : BitVec 32 := 4#32
  let v15 : BitVec 32 := Scalar.remsi v14 c4_i32_4
  let c1_i32_9 : BitVec 32 := 1#32
  let v20 : BitVec 32 := Scalar.muli v15 c1_i32_9
  let v21 : BitVec 32 := Scalar.addi v19 v20
  v21.toNat
def k0_dev2 (d0 : Dev nD) : Nat :=
  let c0_i32_14 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_13 : BitVec 32 := 16#32
  let v24 : BitVec 32 := Scalar.muli v2 c16_i32_13
  let v25 : BitVec 32 := Scalar.addi c0_i32_14 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_15 : BitVec 32 := 4#32
  let v26 : BitVec 32 := Scalar.muli v5 c4_i32_15
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let v22 : BitVec 32 := Scalar.addi v8 c2_i32_10
  let c4_i32_11 : BitVec 32 := 4#32
  let v23 : BitVec 32 := Scalar.remsi v22 c4_i32_11
  let c1_i32_16 : BitVec 32 := 1#32
  let v28 : BitVec 32 := Scalar.muli v23 c1_i32_16
  let v29 : BitVec 32 := Scalar.addi v27 v28
  v29.toNat
def k0_dev3 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v32 : BitVec 32 := Scalar.muli v2 c16_i32_19
  let v33 : BitVec 32 := Scalar.addi c0_i32_20 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v34 : BitVec 32 := Scalar.muli v5 c4_i32_21
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v30 : BitVec 32 := Scalar.addi v8 c3_i32
  let c4_i32_17 : BitVec 32 := 4#32
  let v31 : BitVec 32 := Scalar.remsi v30 c4_i32_17
  let c1_i32_22 : BitVec 32 := 1#32
  let v36 : BitVec 32 := Scalar.muli v31 c1_i32_22
  let v37 : BitVec 32 := Scalar.addi v35 v36
  v37.toNat
def k0_off1 (d0 : Dev nD) (c1_i32_25 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v41 : BitVec 32 := Scalar.addi v8 c1_i32_25
  let c4_i32_26 : BitVec 32 := 4#32
  let v42 : BitVec 32 := Scalar.remsi v41 c4_i32_26
  let v43 : Index := Scalar.indexCast v42
  let c0_27 : Index := 0#32
  let c0_28 : Index := 0#32
  ![v43.toNat, 0, 0]
def k0_dev4 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v51 : BitVec 32 := Scalar.muli v2 c16_i32_36
  let v52 : BitVec 32 := Scalar.addi c0_i32_37 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v53 : BitVec 32 := Scalar.muli v5 c4_i32_38
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v41 : BitVec 32 := Scalar.addi v8 c1_i32_25
  let c4_i32_26 : BitVec 32 := 4#32
  let v42 : BitVec 32 := Scalar.remsi v41 c4_i32_26
  let c1_i32_39 : BitVec 32 := 1#32
  let v55 : BitVec 32 := Scalar.muli v42 c1_i32_39
  let v56 : BitVec 32 := Scalar.addi v54 v55
  v56.toNat
def k0_dev5 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v75 : BitVec 32 := Scalar.muli v2 c16_i32_55
  let v76 : BitVec 32 := Scalar.addi c0_i32_56 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v77 : BitVec 32 := Scalar.muli v5 c4_i32_57
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_44 : BitVec 32 := 2#32
  let v65 : BitVec 32 := Scalar.addi v8 c2_i32_44
  let c4_i32_45 : BitVec 32 := 4#32
  let v66 : BitVec 32 := Scalar.remsi v65 c4_i32_45
  let c1_i32_58 : BitVec 32 := 1#32
  let v79 : BitVec 32 := Scalar.muli v66 c1_i32_58
  let v80 : BitVec 32 := Scalar.addi v78 v79
  v80.toNat
def k0_dev6 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v99 : BitVec 32 := Scalar.muli v2 c16_i32_74
  let v100 : BitVec 32 := Scalar.addi c0_i32_75 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v101 : BitVec 32 := Scalar.muli v5 c4_i32_76
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_63 : BitVec 32 := 3#32
  let v89 : BitVec 32 := Scalar.addi v8 c3_i32_63
  let c4_i32_64 : BitVec 32 := 4#32
  let v90 : BitVec 32 := Scalar.remsi v89 c4_i32_64
  let c1_i32_77 : BitVec 32 := 1#32
  let v103 : BitVec 32 := Scalar.muli v90 c1_i32_77
  let v104 : BitVec 32 := Scalar.addi v102 v103
  v104.toNat
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v129 : Index := Scalar.indexCast v8
  let c0_96 : Index := 0#32
  let c0_97 : Index := 0#32
  ![v129.toNat, 0, 0]
def k0_dev7 (d0 : Dev nD) : Nat :=
  let c0_i32_137 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_136 : BitVec 32 := 16#32
  let v182 : BitVec 32 := Scalar.muli v2 c16_i32_136
  let v183 : BitVec 32 := Scalar.addi c0_i32_137 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_138 : BitVec 32 := 4#32
  let v184 : BitVec 32 := Scalar.muli v5 c4_i32_138
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_129 : BitVec 32 := 4#32
  let v179 : BitVec 32 := Scalar.addi v8 c4_i32_129
  let c1_i32_130 : BitVec 32 := 1#32
  let v180 : BitVec 32 := Scalar.subi v179 c1_i32_130
  let c4_i32_131 : BitVec 32 := 4#32
  let v181 : BitVec 32 := Scalar.remsi v180 c4_i32_131
  let c1_i32_139 : BitVec 32 := 1#32
  let v186 : BitVec 32 := Scalar.muli v181 c1_i32_139
  let v187 : BitVec 32 := Scalar.addi v185 v186
  v187.toNat
def k0_dev8 (d0 : Dev nD) : Nat :=
  let c0_i32_176 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_175 : BitVec 32 := 16#32
  let v230 : BitVec 32 := Scalar.muli v2 c16_i32_175
  let v231 : BitVec 32 := Scalar.addi c0_i32_176 v230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_177 : BitVec 32 := 4#32
  let v232 : BitVec 32 := Scalar.muli v5 c4_i32_177
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_168 : BitVec 32 := 4#32
  let v227 : BitVec 32 := Scalar.addi v8 c4_i32_168
  let c2_i32_169 : BitVec 32 := 2#32
  let v228 : BitVec 32 := Scalar.subi v227 c2_i32_169
  let c4_i32_170 : BitVec 32 := 4#32
  let v229 : BitVec 32 := Scalar.remsi v228 c4_i32_170
  let c1_i32_178 : BitVec 32 := 1#32
  let v234 : BitVec 32 := Scalar.muli v229 c1_i32_178
  let v235 : BitVec 32 := Scalar.addi v233 v234
  v235.toNat
def k0_dev9 (d0 : Dev nD) : Nat :=
  let c0_i32_215 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_214 : BitVec 32 := 16#32
  let v278 : BitVec 32 := Scalar.muli v2 c16_i32_214
  let v279 : BitVec 32 := Scalar.addi c0_i32_215 v278
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_216 : BitVec 32 := 4#32
  let v280 : BitVec 32 := Scalar.muli v5 c4_i32_216
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_207 : BitVec 32 := 4#32
  let v275 : BitVec 32 := Scalar.addi v8 c4_i32_207
  let c3_i32_208 : BitVec 32 := 3#32
  let v276 : BitVec 32 := Scalar.subi v275 c3_i32_208
  let c4_i32_209 : BitVec 32 := 4#32
  let v277 : BitVec 32 := Scalar.remsi v276 c4_i32_209
  let c1_i32_217 : BitVec 32 := 1#32
  let v282 : BitVec 32 := Scalar.muli v277 c1_i32_217
  let v283 : BitVec 32 := Scalar.addi v281 v282
  v283.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x160x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S8x512x1024 : Shape := ⟨3, ![8, 512, 1024]⟩
abbrev S8x1024x512 : Shape := ⟨3, ![8, 1024, 512]⟩
abbrev S_ : Shape := ⟨0, ![]⟩
abbrev S1x512x1024 : Shape := ⟨3, ![1, 512, 1024]⟩
abbrev S512x1024 : Shape := ⟨2, ![512, 1024]⟩
abbrev S2048x1024 : Shape := ⟨2, ![2048, 1024]⟩
abbrev S2048x1 : Shape := ⟨2, ![2048, 1]⟩
abbrev S1x1024x512 : Shape := ⟨3, ![1, 1024, 512]⟩
abbrev S1024x512 : Shape := ⟨2, ![1024, 512]⟩

abbrev nBuf : Space → Nat
  | .hbm => 126
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S8x512x1024, .f32⟩
  | .hbm, ⟨3, _⟩ => ⟨S8x1024x512, .f32⟩
  | .hbm, ⟨4, _⟩ => ⟨S_, .f32⟩
  | .hbm, ⟨5, _⟩ => ⟨S2048x512, .f32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S1x512x1024, .f32⟩
  | .hbm, ⟨10, _⟩ => ⟨S512x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1, .i1⟩
  | .hbm, ⟨16, _⟩ => ⟨S1x1024x512, .f32⟩
  | .hbm, ⟨17, _⟩ => ⟨S1024x512, .f32⟩
  | .hbm, ⟨18, _⟩ => ⟨S2048x512, .f32⟩
  | .hbm, ⟨19, _⟩ => ⟨S2048x512, .i1⟩
  | .hbm, ⟨20, _⟩ => ⟨S2048x512, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S1x512x1024, .f32⟩
  | .hbm, ⟨25, _⟩ => ⟨S512x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1, .i1⟩
  | .hbm, ⟨31, _⟩ => ⟨S1x1024x512, .f32⟩
  | .hbm, ⟨32, _⟩ => ⟨S1024x512, .f32⟩
  | .hbm, ⟨33, _⟩ => ⟨S2048x512, .f32⟩
  | .hbm, ⟨34, _⟩ => ⟨S2048x512, .i1⟩
  | .hbm, ⟨35, _⟩ => ⟨S2048x512, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S1x512x1024, .f32⟩
  | .hbm, ⟨40, _⟩ => ⟨S512x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1, .i1⟩
  | .hbm, ⟨46, _⟩ => ⟨S1x1024x512, .f32⟩
  | .hbm, ⟨47, _⟩ => ⟨S1024x512, .f32⟩
  | .hbm, ⟨48, _⟩ => ⟨S2048x512, .f32⟩
  | .hbm, ⟨49, _⟩ => ⟨S2048x512, .i1⟩
  | .hbm, ⟨50, _⟩ => ⟨S2048x512, .f32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S1x512x1024, .f32⟩
  | .hbm, ⟨55, _⟩ => ⟨S512x1024, .f32⟩
  | .hbm, ⟨56, _⟩ => ⟨S2048x1024, .f32⟩
  | .hbm, ⟨57, _⟩ => ⟨S_, .f32⟩
  | .hbm, ⟨58, _⟩ => ⟨S2048x1024, .f32⟩
  | .hbm, ⟨59, _⟩ => ⟨S2048x1024, .f32⟩
  | .hbm, ⟨60, _⟩ => ⟨S2048x1, .i1⟩
  | .hbm, ⟨61, _⟩ => ⟨S1x1024x512, .f32⟩
  | .hbm, ⟨62, _⟩ => ⟨S1024x512, .f32⟩
  | .hbm, ⟨63, _⟩ => ⟨S2048x512, .f32⟩
  | .hbm, ⟨64, _⟩ => ⟨S2048x512, .i1⟩
  | .hbm, ⟨65, _⟩ => ⟨S2048x512, .f32⟩
  | .hbm, ⟨66, _⟩ => ⟨S_, .i32⟩
  | .hbm, ⟨67, _⟩ => ⟨S2048, .i32⟩
  | .hbm, ⟨68, _⟩ => ⟨S2048, .i1⟩
  | .hbm, ⟨69, _⟩ => ⟨S1x512x1024, .f32⟩
  | .hbm, ⟨70, _⟩ => ⟨S512x1024, .f32⟩
  | .hbm, ⟨71, _⟩ => ⟨S2048x1024, .f32⟩
  | .hbm, ⟨72, _⟩ => ⟨S_, .f32⟩
  | .hbm, ⟨73, _⟩ => ⟨S2048x1024, .f32⟩
  | .hbm, ⟨74, _⟩ => ⟨S2048x1024, .f32⟩
  | .hbm, ⟨75, _⟩ => ⟨S2048x1, .i1⟩
  | .hbm, ⟨76, _⟩ => ⟨S1x1024x512, .f32⟩
  | .hbm, ⟨77, _⟩ => ⟨S1024x512, .f32⟩
  | .hbm, ⟨78, _⟩ => ⟨S2048x512, .f32⟩
  | .hbm, ⟨79, _⟩ => ⟨S2048x512, .i1⟩
  | .hbm, ⟨80, _⟩ => ⟨S2048x512, .f32⟩
  | .hbm, ⟨81, _⟩ => ⟨S_, .i32⟩
  | .hbm, ⟨82, _⟩ => ⟨S2048, .i32⟩
  | .hbm, ⟨83, _⟩ => ⟨S2048, .i1⟩
  | .hbm, ⟨84, _⟩ => ⟨S1x512x1024, .f32⟩
  | .hbm, ⟨85, _⟩ => ⟨S512x1024, .f32⟩
  | .hbm, ⟨86, _⟩ => ⟨S2048x1024, .f32⟩
  | .hbm, ⟨87, _⟩ => ⟨S_, .f32⟩
  | .hbm, ⟨88, _⟩ => ⟨S2048x1024, .f32⟩
  | .hbm, ⟨89, _⟩ => ⟨S2048x1024, .f32⟩
  | .hbm, ⟨90, _⟩ => ⟨S2048x1, .i1⟩
  | .hbm, ⟨91, _⟩ => ⟨S1x1024x512, .f32⟩
  | .hbm, ⟨92, _⟩ => ⟨S1024x512, .f32⟩
  | .hbm, ⟨93, _⟩ => ⟨S2048x512, .f32⟩
  | .hbm, ⟨94, _⟩ => ⟨S2048x512, .i1⟩
  | .hbm, ⟨95, _⟩ => ⟨S2048x512, .f32⟩
  | .hbm, ⟨96, _⟩ => ⟨S_, .i32⟩
  | .hbm, ⟨97, _⟩ => ⟨S2048, .i32⟩
  | .hbm, ⟨98, _⟩ => ⟨S2048, .i1⟩
  | .hbm, ⟨99, _⟩ => ⟨S1x512x1024, .f32⟩
  | .hbm, ⟨100, _⟩ => ⟨S512x1024, .f32⟩
  | .hbm, ⟨101, _⟩ => ⟨S2048x1024, .f32⟩
  | .hbm, ⟨102, _⟩ => ⟨S_, .f32⟩
  | .hbm, ⟨103, _⟩ => ⟨S2048x1024, .f32⟩
  | .hbm, ⟨104, _⟩ => ⟨S2048x1024, .f32⟩
  | .hbm, ⟨105, _⟩ => ⟨S2048x1, .i1⟩
  | .hbm, ⟨106, _⟩ => ⟨S1x1024x512, .f32⟩
  | .hbm, ⟨107, _⟩ => ⟨S1024x512, .f32⟩
  | .hbm, ⟨108, _⟩ => ⟨S2048x512, .f32⟩
  | .hbm, ⟨109, _⟩ => ⟨S2048x512, .i1⟩
  | .hbm, ⟨110, _⟩ => ⟨S2048x512, .f32⟩
  | .hbm, ⟨111, _⟩ => ⟨S_, .i32⟩
  | .hbm, ⟨112, _⟩ => ⟨S2048, .i32⟩
  | .hbm, ⟨113, _⟩ => ⟨S2048, .i1⟩
  | .hbm, ⟨114, _⟩ => ⟨S1x512x1024, .f32⟩
  | .hbm, ⟨115, _⟩ => ⟨S512x1024, .f32⟩
  | .hbm, ⟨116, _⟩ => ⟨S2048x1024, .f32⟩
  | .hbm, ⟨117, _⟩ => ⟨S_, .f32⟩
  | .hbm, ⟨118, _⟩ => ⟨S2048x1024, .f32⟩
  | .hbm, ⟨119, _⟩ => ⟨S2048x1024, .f32⟩
  | .hbm, ⟨120, _⟩ => ⟨S2048x1, .i1⟩
  | .hbm, ⟨121, _⟩ => ⟨S1x1024x512, .f32⟩
  | .hbm, ⟨122, _⟩ => ⟨S1024x512, .f32⟩
  | .hbm, ⟨123, _⟩ => ⟨S2048x512, .f32⟩
  | .hbm, ⟨124, _⟩ => ⟨S2048x512, .i1⟩
  | .hbm, ⟨125, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Protocol.lean ====
/-
  The exchange of the kernel, as a protocol between devices: the cells, what each cell's round is paid with and by whom, and
  what each landing hands over.

  A device c sits in a group of four (the devices that share its first two mesh coordinates); `peer k c` is the member k places
  further on. In order, a device
    * starts two local copies of its expert weights into scratch (cells w 0, w 1);
    * signals the barrier cell of each peer, lending it the landing slots that peer will fill and the fact that the receive cells
      of those slots are open;
    * waits for its three peers' units on its own barrier cell;
    * sends each peer the dispatched rows that belong to it (send cell of the sender, receive cell of the peer);
    * waits for its weights; for each peer's rows in turn waits, applies its experts and sends the result back;
    * waits for the three results, combines them, and waits for its own six sends.
-/
module

public import proofs.«01_k».proof.Proof.Gen.KernelIdeal.Launch
public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.Rounds
public import Idealize.ShloMosaic.Lib.StableHlo
public import Idealize.ShloMosaic.Lib.Tactic
public import Idealize.ShloMosaic.Harness.Basic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The group of a device -/

/-- The member of c's group of four, k places after c. -/
def peer (k : ℕ) (c : Dev nD) : Dev nD :=
  ⟨c.val / 4 * 4 + (c.val % 4 + k) % 4, by
    have h : c.val < 32 := c.isLt
    show c.val / 4 * 4 + (c.val % 4 + k) % 4 < 32
    omega⟩

/-- The place of c in its group. -/
def pos (c : Dev nD) : ℕ := c.val % 4

/-- A place is one of four. -/
theorem pos_lt (c : Dev nD) : pos c < 4 := Nat.mod_lt _ (by decide)

/-- Steps within a group add. -/
theorem peer_peer (j k : ℕ) (c : Dev nD) : peer j (peer k c) = peer (k + j) c := by
  apply Fin.ext; show (c.val / 4 * 4 + (c.val % 4 + k) % 4) / 4 * 4 + ((c.val / 4 * 4 + (c.val % 4 + k) % 4) % 4 + j) % 4 = c.val / 4 * 4 + (c.val % 4 + (k + j)) % 4
  omega

/-- Four steps lead back. -/
theorem peer_four (c : Dev nD) : peer 4 c = c := by
  apply Fin.ext; show c.val / 4 * 4 + (c.val % 4 + 4) % 4 = c.val; omega

/-- A device is the peer of its peer. -/
theorem peer_back {j k : ℕ} (h : k + j = 4) (c : Dev nD) : peer j (peer k c) = c := by
  rw [peer_peer, h, peer_four]

/-- The place of a peer. -/
theorem pos_peer (k : ℕ) (c : Dev nD) : pos (peer k c) = (pos c + k) % 4 := by
  show (c.val / 4 * 4 + (c.val % 4 + k) % 4) % 4 = (c.val % 4 + k) % 4
  omega

/-- Moving k places round the group is a rearrangement of the devices. -/
def ring (k : ℕ) (hk : k ≤ 4) : Dev nD ≃ Dev nD :=
  ⟨peer k, peer (4 - k), fun c => peer_back (by omega) c, fun c => peer_back (by omega) c⟩

/-- A device number computed from the mesh coordinates is the peer it names. -/
theorem peer_eq {c : Dev nD} {n k : ℕ} (h : n < nD)
    (e : n = 16 * (c.val / 16) + 4 * ((c.val / 4) % 4) + (((c.val % 4) + k) % 4)) : (⟨n, h⟩ : Dev nD) = peer k c := by
  apply Fin.ext; show n = c.val / 4 * 4 + (c.val % 4 + k) % 4
  omega

/-- Device number 1 of those the program computes is the peer at distance 1. -/
theorem dev1 (c : Dev nD) : (⟨k0_dev1 c, Facts₀.k0_dev1_lt c⟩ : Dev nD) = peer 1 c := peer_eq _ (k0_dev1_eq c)
/-- Device number 2 of those the program computes is the peer at distance 2. -/
theorem dev2 (c : Dev nD) : (⟨k0_dev2 c, Facts₀.k0_dev2_lt c⟩ : Dev nD) = peer 2 c := peer_eq _ (k0_dev2_eq c)
/-- Device number 3 of those the program computes is the peer at distance 3. -/
theorem dev3 (c : Dev nD) : (⟨k0_dev3 c, Facts₀.k0_dev3_lt c⟩ : Dev nD) = peer 3 c := peer_eq _ (k0_dev3_eq c)
/-- Device number 4 of those the program computes is the peer at distance 1. -/
theorem dev4 (c : Dev nD) : (⟨k0_dev4 c, Facts₀.k0_dev4_lt c⟩ : Dev nD) = peer 1 c := peer_eq _ (k0_dev4_eq c)
/-- Device number 5 of those the program computes is the peer at distance 2. -/
theorem dev5 (c : Dev nD) : (⟨k0_dev5 c, Facts₀.k0_dev5_lt c⟩ : Dev nD) = peer 2 c := peer_eq _ (k0_dev5_eq c)
/-- Device number 6 of those the program computes is the peer at distance 3. -/
theorem dev6 (c : Dev nD) : (⟨k0_dev6 c, Facts₀.k0_dev6_lt c⟩ : Dev nD) = peer 3 c := peer_eq _ (k0_dev6_eq c)
/-- Device number 7 of those the program computes is the peer at distance 3. -/
theorem dev7 (c : Dev nD) : (⟨k0_dev7 c, Facts₀.k0_dev7_lt c⟩ : Dev nD) = peer 3 c := peer_eq _ (k0_dev7_eq c)
/-- Device number 8 of those the program computes is the peer at distance 2. -/
theorem dev8 (c : Dev nD) : (⟨k0_dev8 c, Facts₀.k0_dev8_lt c⟩ : Dev nD) = peer 2 c := peer_eq _ (k0_dev8_eq c)
/-- Device number 9 of those the program computes is the peer at distance 1. -/
theorem dev9 (c : Dev nD) : (⟨k0_dev9 c, Facts₀.k0_dev9_lt c⟩ : Dev nD) = peer 1 c := peer_eq _ (k0_dev9_eq c)

/-! ## Memrefs and slots -/

/-- The rows to send. -/
abbrev sM : Memref sig .tc .vmem S3x160x512 .bf16 := Memref.whole cc0_scratch0
/-- The rows that arrive. -/
abbrev aM : Memref sig .tc .vmem S3x160x512 .bf16 := Memref.whole cc0_scratch1
/-- The results to return. -/
abbrev oM : Memref sig .tc .vmem S3x160x512 .bf16 := Memref.whole cc0_scratch2
/-- The results that come back. -/
abbrev rM : Memref sig .tc .vmem S3x160x512 .bf16 := Memref.whole cc0_scratch3
/-- The first weights, staged. -/
abbrev w1M : Memref sig .tc .vmem S2x512x1024 .f32 := Memref.whole cc0_scratch4
/-- The second weights, staged. -/
abbrev w2M : Memref sig .tc .vmem S2x1024x512 .f32 := Memref.whole cc0_scratch5
/-- The tokens, staged. -/
abbrev xM : Memref sig .tc .vmem S512x512 .f32 := Memref.whole cc0_stg0_0
/-- The table, staged. -/
abbrev pM : Memref sig .tc .vmem S4x160x512 .bf16 := Memref.whole cc0_stg1_0
/-- The result, staged. -/
abbrev yM : Memref sig .tc .vmem S512x512 .f32 := Memref.whole cc0_stg2_0
/-- The first weights as given. -/
abbrev g1M : Memref sig .tc .hbm S2x512x1024 .f32 := Memref.whole main_arg2
/-- The second weights as given. -/
abbrev g2M : Memref sig .tc .hbm S2x1024x512 .f32 := Memref.whole main_arg3

/-- Slot k lies within a buffer of three slots. -/
abbrev In3 (k : ℕ) : Prop := ∀ a, (![k, 0, 0] : Fin 3 → ℕ) a + S1x160x512.size a ≤ S3x160x512.size a

/-- Each of the three slots lies within its buffer. -/
theorem in3 : {k : ℕ} → k < 3 → In3 k
  | 0, _ => by decide
  | 1, _ => by decide
  | 2, _ => by decide
  | _ + 3, h => absurd h (by omega)

/-- The rectangle of slot k. -/
abbrev sRect (k : ℕ) (h : In3 k) : Rect S3x160x512 := Rect.unit (s := S3x160x512) ![k, 0, 0] S1x160x512.size h
/-- Slot k of a buffer of three slots, as a transfer names it. -/
abbrev slotM (M : Memref sig .tc .vmem S3x160x512 .bf16) (k : ℕ) (h : In3 k) : Memref sig .tc .vmem S160x512 .bf16 :=
  (M.slice (sRect k h) (fun _ => rfl)).squeeze S160x512 Facts₀.squeezes_S1x160x512_S160x512

/-! ## What travels -/

/-- The contents the kernel works from, on every device: its tokens, its dispatch table, its experts' weights. -/
structure Data (F : FTy → Type) where
  x : Dev nD → (cc0_stg0_0 : Ref sig .tc).ty.Contents (Elt F)
  p : Dev nD → (cc0_stg1_0 : Ref sig .tc).ty.Contents (Elt F)
  w1 : Dev nD → (main_arg2 : Ref sig .tc).ty.Contents (Elt F)
  w2 : Dev nD → (main_arg3 : Ref sig .tc).ty.Contents (Elt F)

variable (D : Data F)

/-- Each of the four blocks lies within the table. -/
theorem in4' : (j : ℕ) → j < 4 → ∀ a, (![j, 0, 0] : Fin 3 → ℕ) a + S1x160x512.size a ≤ S4x160x512.size a
  | 0, _ => by decide
  | 1, _ => by decide
  | 2, _ => by decide
  | 3, _ => by decide
  | _ + 4, h => absurd h (by omega)

/-- The block of any number, taken modulo 4, lies within the table. -/
theorem in4 (k : ℕ) : ∀ a, (![k % 4, 0, 0] : Fin 3 → ℕ) a + S1x160x512.size a ≤ S4x160x512.size a :=
  in4' (k % 4) (Nat.mod_lt _ (by decide))

/-- The tokens as loaded. -/
def xs (c : Dev nD) : Vec F S512x512 .f32 :=
  (xM.access (Rect.unit (s := S512x512) ![0, 0] S512x512.size Facts₀.inb_S512x512_S512x512_0_0)).read (Elt F) (D.x c)
/-- Block k of the dispatch table, the rows for the device at place k of the group. -/
def ps (c : Dev nD) (k : ℕ) : Vec F S1x160x512 .bf16 :=
  (pM.access (Rect.unit (s := S4x160x512) ![k % 4, 0, 0] S1x160x512.size (in4 k))).read (Elt F) (D.p c)
/-- The four weight matrices of a device's two experts, as the kernel multiplies by them. -/
def wAv (c : Dev nD) : Vec F S1x512x1024 .f32 :=
  (w1M.access (Rect.unit (s := S2x512x1024) ![0, 0, 0] S1x512x1024.size Facts₀.inb_S2x512x1024_S1x512x1024_0_0_0)).read (Elt F) (D.w1 c)
/-- The first expert's first matrix. -/
def wA (c : Dev nD) : FVec F S512x1024 .bf16 := k0_pay5 (wAv D c)
/-- The second expert's first matrix as loaded. -/
def wBv (c : Dev nD) : Vec F S1x512x1024 .f32 :=
  (w1M.access (Rect.unit (s := S2x512x1024) ![1, 0, 0] S1x512x1024.size Facts₀.inb_S2x512x1024_S1x512x1024_1_0_0)).read (Elt F) (D.w1 c)
/-- The second expert's first matrix. -/
def wB (c : Dev nD) : FVec F S512x1024 .bf16 := k0_pay6 (wBv D c)
/-- The first expert's second matrix as loaded. -/
def wCv (c : Dev nD) : Vec F S1x1024x512 .f32 :=
  ((w2M.access (Rect.unit (s := S2x1024x512) ![0, 0, 0] S1x1024x512.size Facts₀.inb_S2x1024x512_S1x1024x512_0_0_0)).read (Elt F) (D.w2 c))
/-- The second expert's second matrix as loaded. -/
def wDv (c : Dev nD) : Vec F S1x1024x512 .f32 :=
  ((w2M.access (Rect.unit (s := S2x1024x512) ![1, 0, 0] S1x1024x512.size Facts₀.inb_S2x1024x512_S1x1024x512_1_0_0)).read (Elt F) (D.w2 c))

/-- The rows device q dispatches to the device at place k of its group. -/
def disp (q : Dev nD) (k : ℕ) : Vec F S1x160x512 .bf16 := k0_pay3 (k0_pay1 (xs D q)) (ps D q k)
/-- Device c's two experts applied to a block of dispatched rows. -/
def ffn (c : Dev nD) (r : Vec F S1x160x512 .bf16) : Vec F S1x160x512 .bf16 :=
  k0_pay10 (wA D c) (wB D c) (k0_pay7 (wCv D c)) (k0_pay8 (wDv D c)) r
/-- What lands in arrival slot j of c: the rows of the peer 3 − j places on that belong to c. -/
def arr (c : Dev nD) (j : ℕ) : Vec F S1x160x512 .bf16 := disp D (peer (3 - j) c) (pos c)
/-- What lands in return slot j of c: the result, by the peer j + 1 places on, for the rows c sent it. -/
def ret (c : Dev nD) (j : ℕ) : Vec F S1x160x512 .bf16 := ffn D (peer (j + 1) c) (disp D c (pos c + j + 1))
/-- c's own experts on its own rows. -/
def own (c : Dev nD) : FVec F S160x512 .bf16 := k0_pay9 (k0_pay1 (xs D c)) (wA D c) (wB D c) (wCv D c) (wDv D c) (ps D c (pos c))
/-- The result block of c. -/
def out (c : Dev nD) : Vec F S512x512 .f32 :=
  k0_pay16 (k0_pay15 (k0_pay14 (own D c) (ps D c (pos c)) (ps D c (pos c + 1)) (ret D c 0)) (ps D c (pos c + 2)) (ret D c 1))
    (ps D c (pos c + 3)) (ret D c 2)

/-! ## The resource algebra and the cells -/

/-- The ghost state: the copies' own and the rounds of the cells. -/
abbrev UU : Type := UR sig nD τ × Rounds.URounds (GSem nD τ sig) (Fin 3)

local notation "𝕄" => MT nD τ sig Unit (Elt F) ℕ UU ℕ

/-- The part of the copies. -/
abbrev EP : Emb (UR sig nD τ) (MT nD τ sig Unit (Elt F) ℕ UU ℕ) := embL
/-- The part of the rounds. -/
abbrev ER : Emb (Rounds.URounds (GSem nD τ sig) (Fin 3)) (MT nD τ sig Unit (Elt F) ℕ UU ℕ) := embR

/-- The send cells of the dispatch. -/
abbrev fsI (k : ℕ) : DmaSem sig := Fin.ofNat 17 (3 + k)
/-- The receive cells of the dispatch. -/
abbrev frI (k : ℕ) : DmaSem sig := Fin.ofNat 17 (6 + k)
/-- The send cells of the return. -/
abbrev rsI (k : ℕ) : DmaSem sig := Fin.ofNat 17 (9 + k)
/-- The receive cells of the return. -/
abbrev rrI (k : ℕ) : DmaSem sig := Fin.ofNat 17 (12 + k)
/-- The cells of the weights' copies. -/
abbrev wI (k : ℕ) : DmaSem sig := Fin.ofNat 17 (15 + k)

/-- The barrier cell of c. -/
abbrev bar (c : Dev nD) : GSem nD τ sig := ((c : Thread nD τ), .reg barrier0)
/-- Copy cell i of c. -/
abbrev dc (c : Dev nD) (i : DmaSem sig) : GSem nD τ sig := ((c : Thread nD τ), .dma i)

/-- The credit of one slot's transfer, and of the two weight copies. -/
abbrev N : ℕ := (slotM aM 0 (in3 (by decide))).view.dmaCredit
/-- The credit of the first weights' copy. -/
abbrev N1 : ℕ := (w1M : Memref sig .tc .vmem S2x512x1024 .f32).view.dmaCredit
/-- The credit of the second weights' copy. -/
abbrev N2 : ℕ := (w2M : Memref sig .tc .vmem S2x1024x512 .f32).view.dmaCredit

/-- A slot's copy moves something. -/
theorem N_pos : 0 < N := View.dmaCredit_pos _ (by decide)
/-- The first weights' copy moves something. -/
theorem N1_pos : 0 < N1 := View.dmaCredit_pos _ (by decide)
/-- The second weights' copy moves something. -/
theorem N2_pos : 0 < N2 := View.dmaCredit_pos _ (by decide)

/-- Every arrival slot has the size of a slot. -/
theorem N_a (k : ℕ) (h : In3 k) : (slotM aM k h).view.dmaCredit = N := rfl
/-- Every return slot has the size of a slot. -/
theorem N_r (k : ℕ) (h : In3 k) : (slotM rM k h).view.dmaCredit = N := rfl
/-- Every slot of rows to send has the size of a slot. -/
theorem N_s (k : ℕ) (h : In3 k) : (slotM sM k h).view.dmaCredit = N := rfl
/-- Every slot of results to return has the size of a slot. -/
theorem N_o (k : ℕ) (h : In3 k) : (slotM oM k h).view.dmaCredit = N := rfl

/-! ## Points-tos -/

/-- Slot k of device c's buffer, at f. -/
abbrev slotPts (M : Memref sig .tc .vmem S3x160x512 .bf16) (k : ℕ) (h : In3 k) (c : Dev nD)
    (f : Buf (Elt F) ((slotM M k h).view.loc (c : Thread nD τ))) : sProp 𝕄 :=
  (slotM M k h).view.loc (c : Thread nD τ) ↦[(slotM M k h).view.set]{fullShare} f

/-- Slot k of device c's buffer, at contents not named. -/
def slotAny (M : Memref sig .tc .vmem S3x160x512 .bf16) (k : ℕ) (h : In3 k) (c : Dev nD) : sProp 𝕄 :=
  iprop(∃ f, slotPts M k h c f)

/-- Slot k of device c's buffer, reading v. -/
def slotIs (M : Memref sig .tc .vmem S3x160x512 .bf16) (k : ℕ) (h : In3 k) (c : Dev nD) (v : Vec F S1x160x512 .bf16) : sProp 𝕄 :=
  iprop(∃ f, slotPts M k h c f ∗ ⌜(M.access (sRect k h)).read (Elt F) f = v⌝)

/-- A whole buffer of device c, at f. -/
abbrev pt (c : Dev nD) (b : Ref sig .tc) (f : b.ty.Contents (Elt F)) : sProp 𝕄 :=
  (Memref.whole b).view.loc (c : Thread nD τ) ↦[(Memref.whole b).view.set]{fullShare} f

/-- A slot with known contents is a slot. -/
theorem slotIs_any (M : Memref sig .tc .vmem S3x160x512 .bf16) (k : ℕ) (h : In3 k) (c : Dev nD) (v : Vec F S1x160x512 .bf16) :
    slotIs M k h c v ⊢ (slotAny M k h c : sProp 𝕄) := by
  unfold slotIs slotAny
  iintro ⟨%f, H, -⟩
  iexists f; iexact H

/-! ## The schedule -/

/-- Paid to c's barrier cell by the peer 3 − e places on: its arrival slot 2 − e and its return slot e, which c fills, and that their
    receive cells are open. -/
def barPay (c : Dev nD) (e : Fin 3) : sProp 𝕄 :=
  match e with
  | 0 => iprop(slotAny aM 2 (in3 (by decide)) (peer 3 c) ∗ slotAny rM 0 (in3 (by decide)) (peer 3 c)
      ∗ reached ER (dc (peer 3 c) (frI 2)) 0 ∗ reached ER (dc (peer 3 c) (rrI 0)) 0)
  | 1 => iprop(slotAny aM 1 (in3 (by decide)) (peer 2 c) ∗ slotAny rM 1 (in3 (by decide)) (peer 2 c)
      ∗ reached ER (dc (peer 2 c) (frI 1)) 0 ∗ reached ER (dc (peer 2 c) (rrI 1)) 0)
  | 2 => iprop(slotAny aM 0 (in3 (by decide)) (peer 1 c) ∗ slotAny rM 2 (in3 (by decide)) (peer 1 c)
      ∗ reached ER (dc (peer 1 c) (frI 0)) 0 ∗ reached ER (dc (peer 1 c) (rrI 2)) 0)

/-- What a transfer cell of c delivers: a send cell the slot sent from; a receive cell the slot with what landed; a weight cell the
    weights copied, and their source back. -/
def dmaPay (c : Dev nD) : ℕ → sProp 𝕄
  | 3 => slotAny sM 0 (in3 (by decide)) c
  | 4 => slotAny sM 1 (in3 (by decide)) c
  | 5 => slotAny sM 2 (in3 (by decide)) c
  | 6 => slotIs aM 0 (in3 (by decide)) c (arr D c 0)
  | 7 => slotIs aM 1 (in3 (by decide)) c (arr D c 1)
  | 8 => slotIs aM 2 (in3 (by decide)) c (arr D c 2)
  | 9 => slotAny oM 0 (in3 (by decide)) c
  | 10 => slotAny oM 1 (in3 (by decide)) c
  | 11 => slotAny oM 2 (in3 (by decide)) c
  | 12 => slotIs rM 0 (in3 (by decide)) c (ret D c 0)
  | 13 => slotIs rM 1 (in3 (by decide)) c (ret D c 1)
  | 14 => slotIs rM 2 (in3 (by decide)) c (ret D c 2)
  | 15 => iprop(pt c cc0_scratch4 (D.w1 c) ∗ pt c main_arg2 (D.w1 c))
  | 16 => iprop(pt c cc0_scratch5 (D.w2 c) ∗ pt c main_arg3 (D.w2 c))
  | _ => iprop(emp)

/-- The credit of a transfer cell's round. -/
def dmaAmt : ℕ → ℕ
  | 15 => N1
  | 16 => N2
  | _ => N

/-- Every copy cell's payment is positive. -/
theorem dmaAmt_pos (n : ℕ) : 0 < dmaAmt n := by
  unfold dmaAmt; split
  · exact N1_pos
  · exact N2_pos
  · exact N_pos

/-- One round: three duties on every barrier cell, one on every transfer cell of the kernel's own. -/
def talkRd : Rounds.Schedule (GSem nD τ sig) (Fin 3) 𝕄 where
  duties g r := if r = 0 ∧ g.1.2 = .tc then (match g.2 with | .reg _ => Finset.univ | .dma i => if 3 ≤ i.val then {0} else ∅) else ∅
  unitless _ := False
  amount g _ _ := match g.2 with | .reg _ => 1 | .dma i => dmaAmt i.val
  payload g _ e := match g.2 with | .reg _ => barPay g.1.1 e | .dma i => dmaPay D g.1.1 i.val
  amount_pos g _ _ _ := by
    rcases g with ⟨_, _ | i⟩
    · exact Nat.one_pos
    · exact dmaAmt_pos _

/-- A slot can be put into a cell. -/
instance slotAny_storable (M : Memref sig .tc .vmem S3x160x512 .bf16) (k : ℕ) (h : In3 k) (c : Dev nD) :
    BI.Storable (upEmb : UEmb _ 𝕄) (slotAny (F := F) M k h c) := by
  unfold slotAny; infer_instance

/-- A slot with known contents can be put into a cell. -/
instance slotIs_storable (M : Memref sig .tc .vmem S3x160x512 .bf16) (k : ℕ) (h : In3 k) (c : Dev nD) (v : Vec F S1x160x512 .bf16) :
    BI.Storable (upEmb : UEmb _ 𝕄) (slotIs (F := F) M k h c v) := by
  unfold slotIs; infer_instance

/-- What a barrier unit carries can be put into a cell. -/
instance barPay_storable (c : Dev nD) : (e : Fin 3) → BI.Storable (upEmb : UEmb _ 𝕄) (barPay (F := F) c e)
  | 0 => by unfold barPay; infer_instance
  | 1 => by unfold barPay; infer_instance
  | 2 => by unfold barPay; infer_instance

/-- What a copy hands over can be put into a cell. -/
instance dmaPay_storable (c : Dev nD) : (n : ℕ) → BI.Storable (upEmb : UEmb _ 𝕄) (dmaPay (F := F) D c n)
  | 0 | 1 | 2 | _ + 17 => (inferInstance : BI.Storable (upEmb : UEmb _ 𝕄) iprop(emp))
  | 3 | 4 | 5 => slotAny_storable sM _ _ c
  | 9 | 10 | 11 => slotAny_storable oM _ _ c
  | 6 | 7 | 8 => slotIs_storable aM _ _ c _
  | 12 | 13 | 14 => slotIs_storable rM _ _ c _
  | 15 => (inferInstance : BI.Storable (upEmb : UEmb _ 𝕄) iprop(pt c cc0_scratch4 (D.w1 c) ∗ pt c main_arg2 (D.w1 c)))
  | 16 => (inferInstance : BI.Storable (upEmb : UEmb _ 𝕄) iprop(pt c cc0_scratch5 (D.w2 c) ∗ pt c main_arg3 (D.w2 c)))

/-- So can every payment of the protocol. -/
instance talkRd_payload_storable (g : GSem nD τ sig) (r : ℕ) (e : Fin 3) :
    BI.Storable (upEmb : UEmb _ 𝕄) ((talkRd (F := F) D).payload g r e) := by
  rcases g with ⟨t, _ | i⟩
  · exact barPay_storable t.1 e
  · exact dmaPay_storable D t.1 i.val

section Sched

variable (c : Dev nD)

/-- A barrier cell is paid by three. -/
theorem duties_bar : (talkRd (F := F) D).duties (bar c) 0 = Finset.univ := by dsimp only [talkRd]; exact if_pos ⟨rfl, rfl⟩
/-- A copy cell is paid once. -/
theorem duties_dma (i : DmaSem sig) (hi : 3 ≤ i.val) : (talkRd (F := F) D).duties (dc c i) 0 = {0} := by
  dsimp only [talkRd]; rw [if_pos ⟨rfl, rfl⟩, if_pos hi]
/-- No cell is paid after its first round. -/
theorem duties_later (g : GSem nD τ sig) : ∀ r, 1 ≤ r → (talkRd (F := F) D).duties g r = ∅ :=
  fun r hr => by dsimp only [talkRd]; exact if_neg (fun h => by omega)

/-- Each of the three pays the barrier cell. -/
theorem mem_bar (e : Fin 3) : e ∈ (talkRd (F := F) D).duties (bar c) 0 := by rw [duties_bar]; exact Finset.mem_univ _
/-- The one payment of a copy cell is among its payments. -/
theorem mem_dma (i : DmaSem sig) (hi : 3 ≤ i.val) : (0 : Fin 3) ∈ (talkRd (F := F) D).duties (dc c i) 0 := by
  rw [duties_dma D c i hi]; exact Finset.mem_singleton_self _

/-- Each barrier payment is one unit. -/
theorem amount_bar (e : Fin 3) : (talkRd (F := F) D).amount (bar c) 0 e = 1 := rfl
/-- The payment of a copy cell is its copy's credit. -/
theorem amount_dma (i : DmaSem sig) (e : Fin 3) : (talkRd (F := F) D).amount (dc c i) 0 e = dmaAmt i.val := rfl

/-- What each barrier payment carries. -/
theorem payload_bar (e : Fin 3) : (talkRd (F := F) D).payload (bar c) 0 e = barPay c e := rfl

/-- A barrier cell expects three units. -/
theorem expect_bar : (talkRd (F := F) D).expect (bar c) 0 = 3 := by
  unfold Schedule.expect Schedule.amountOf; rw [duties_bar]; rfl
/-- A copy cell expects its copy's credit. -/
theorem expect_dma (i : DmaSem sig) (hi : 3 ≤ i.val) : (talkRd (F := F) D).expect (dc c i) 0 = dmaAmt i.val := by
  unfold Schedule.expect Schedule.amountOf; rw [duties_dma D c i hi, Finset.sum_singleton]; rfl

/-- A full barrier round hands over all three parts. -/
theorem rest_bar : bigSep ((talkRd (F := F) D).duties (bar c) 0 \ ∅) (fun e => (talkRd (F := F) D).payload (bar c) 0 e)
    = iprop(barPay c 0 ∗ barPay c 1 ∗ barPay c 2) := by
  rw [Finset.sdiff_empty, duties_bar]; exact Ring.bigSep_fin3 (fun e : Fin 3 => (barPay c e : sProp 𝕄))
/-- A full copy round hands over what its copy delivers. -/
theorem rest_dma (i : DmaSem sig) (hi : 3 ≤ i.val) :
    bigSep ((talkRd (F := F) D).duties (dc c i) 0 \ ∅) (fun e => (talkRd (F := F) D).payload (dc c i) 0 e) = dmaPay D c i.val := by
  rw [Finset.sdiff_empty, duties_dma D c i hi, bigSep_singleton]; rfl

end Sched

/-! ## What each core owes; the levels -/

/-- What c still owes once it has sent its rows: the credits of the three results it returns. -/
def OR2 (c : Dev nD) : CellTallies nD τ sig Unit := tallyAt (dc (peer 1 c) (rrI 2)) () N
/-- With the second result still to return. -/
def OR1 (c : Dev nD) : CellTallies nD τ sig Unit := OR2 c + tallyAt (dc (peer 2 c) (rrI 1)) () N
/-- With the first result still to return. -/
def OR0 (c : Dev nD) : CellTallies nD τ sig Unit := OR1 c + tallyAt (dc (peer 3 c) (rrI 0)) () N
/-- With the credits of the rows it sends. -/
def OF2 (c : Dev nD) : CellTallies nD τ sig Unit := OR0 c + tallyAt (dc (peer 3 c) (frI 2)) () N
/-- With the second rows still to send. -/
def OF1 (c : Dev nD) : CellTallies nD τ sig Unit := OF2 c + tallyAt (dc (peer 2 c) (frI 1)) () N
/-- With the first rows still to send. -/
def OF0 (c : Dev nD) : CellTallies nD τ sig Unit := OF1 c + tallyAt (dc (peer 1 c) (frI 0)) () N
/-- With the barrier units. -/
def OB2 (c : Dev nD) : CellTallies nD τ sig Unit := OF0 c + tallyAt (bar (peer 3 c)) () 1
/-- With the second barrier unit. -/
def OB1 (c : Dev nD) : CellTallies nD τ sig Unit := OB2 c + tallyAt (bar (peer 2 c)) () 1
/-- With the first barrier unit: all that a device owes at the start. -/
def OB0 (c : Dev nD) : CellTallies nD τ sig Unit := OB1 c + tallyAt (bar (peer 1 c)) () 1

/-- The cells that have a level are the TensorCores' own. -/
def L (g : GSem nD τ sig) : Finset Unit := if g.1.2 = .tc then {()} else ∅
/-- Barrier cells at 1, arrival cells at 2, return cells at 3, the rest at 0. -/
def lv (g : GSem nD τ sig) (_ : Unit) : ℕ :=
  match g.2 with
  | .reg _ => 1
  | .dma i => if 12 ≤ i.val ∧ i.val < 15 then 3 else if 6 ≤ i.val ∧ i.val < 9 then 2 else 0

/-- No other unit's cell has a level. -/
theorem L_of_ne (g : GSem nD τ sig) (h : g.1.2 ≠ .tc) : L g = ∅ := if_neg h
/-- A TensorCore's cell has one level. -/
theorem L_tc (c : Dev nD) (sm : SemLoc sig) : L ((c : Thread nD τ), sm) = {()} := if_pos rfl

/-- Everything owed is owed to TensorCore cells above level n. -/
def Above (n : ℕ) (O : CellTallies nD τ sig Unit) : Prop := ∀ g u, 0 < O g u → u ∈ L g ∧ n < lv g u

/-- A debt to a cell of level above n is above n. -/
theorem Above.tally {n : ℕ} (c : Dev nD) (sm : SemLoc sig) (k : ℕ) (h : n < lv ((c : Thread nD τ), sm) ()) :
    Above n (tallyAt ((c : Thread nD τ), sm) () k) := by
  intro g u hg
  rw [tallyAt_apply] at hg
  by_cases e : g = ((c : Thread nD τ), sm) ∧ u = ()
  · rw [e.1]; exact ⟨by rw [L_tc]; exact Finset.mem_singleton_self _, h⟩
  · rw [if_neg e] at hg; exact absurd hg (Nat.lt_irrefl 0)

/-- Two debts above n are above n together. -/
theorem Above.add {n : ℕ} {O O' : CellTallies nD τ sig Unit} (h : Above n O) (h' : Above n O') : Above n (O + O') := by
  intro g u hg
  rcases Nat.eq_zero_or_pos (O g u) with e | e
  · exact h' g u (by have : (O + O') g u = O g u + O' g u := rfl
                     omega)
  · exact h g u e

/-- Owing nothing is above every level. -/
theorem Above.zero (n : ℕ) : Above n 0 := fun _ _ h => absurd h (Nat.lt_irrefl 0)

/-- The last return owed is at level 3. -/
theorem above_OR2 {n : ℕ} (c : Dev nD) (h : n < 3) : Above n (OR2 c) := Above.tally _ _ _ h
/-- The last two returns owed are at level 3. -/
theorem above_OR1 {n : ℕ} (c : Dev nD) (h : n < 3) : Above n (OR1 c) := (above_OR2 c h).add (Above.tally _ _ _ h)
/-- The three returns owed are at level 3. -/
theorem above_OR0 {n : ℕ} (c : Dev nD) (h : n < 3) : Above n (OR0 c) := (above_OR1 c h).add (Above.tally _ _ _ h)
/-- The rows and returns owed are at level 2 and more. -/
theorem above_OF0 {n : ℕ} (c : Dev nD) (h : n < 2) : Above n (OF0 c) :=
  ((((above_OR0 c (by omega)).add (Above.tally _ _ _ h)).add (Above.tally _ _ _ h)).add (Above.tally _ _ _ h))

/-- A core may wait on a cell below everything it owes. -/
theorem mayWait {n : ℕ} (c : Dev nD) (sm : SemLoc sig) (O : CellTallies nD τ sig Unit) (hO : Above n O)
    (h : lv ((c : Thread nD τ), sm) () ≤ n) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact h)
    (fun g u hg => (hO g u hg).2)

/-- No loop variant is needed. -/
abbrev 𝒱₀ : Variants := Variants.none

end Cert.KernelIdeal.Talk

end
-- ==== Proof.Steps.lean ====
/-
  One rule per kind of operation the kernel makes, on the protocol's own assertions: a load of a slot, of a table block, a store into a
  slot, a barrier signal, a wait, a transfer of a slot to a peer, a local copy of a weight buffer.
-/
module

public import proofs.«01_k».proof.Proof.Protocol

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Data F)

/-! ## The invariants, all together -/

/-- The barrier cells, by device. -/
def barEmb : Dev nD ↪ GSem nD τ sig := ⟨bar, fun a b h => Fin.ext (congrArg (fun g : GSem nD τ sig => g.1.1.val) h)⟩
/-- The number of the i-th copy cell. -/
def ownI (i : Fin 14) : DmaSem sig := Fin.ofNat 17 (3 + i.val)
/-- That number is 3 + i. -/
theorem ownI_val (i : Fin 14) : (ownI i).val = 3 + i.val := by
  show (3 + i.val) % 17 = 3 + i.val; have := i.isLt; omega
/-- The copy cells, by device and number. -/
def ownEmb : Dev nD × Fin 14 ↪ GSem nD τ sig := ⟨fun q => dc q.1 (ownI q.2), fun a b h => by
  have h1 : a.1 = b.1 := Fin.ext (congrArg (fun g : GSem nD τ sig => g.1.1.val) h)
  have h2 : ownI a.2 = ownI b.2 := SemLoc.dma.inj (congrArg (fun g : GSem nD τ sig => g.2) h)
  refine Prod.ext h1 (Fin.ext ?_)
  have := congrArg Fin.val h2
  rw [ownI_val, ownI_val] at this
  omega⟩
/-- The barrier cells, and the kernel's own transfer cells. -/
def barCells : Finset (GSem nD τ sig) := Finset.univ.map barEmb
/-- All copy cells. -/
def ownCells : Finset (GSem nD τ sig) := Finset.univ.map ownEmb

/-- A barrier cell is a cell of the protocol. -/
theorem bar_mem (c : Dev nD) : bar c ∈ barCells ∪ ownCells :=
  Finset.mem_union_left _ (Finset.mem_map.mpr ⟨c, Finset.mem_univ _, rfl⟩)
/-- A copy cell is a cell of the protocol. -/
theorem dc_mem (c : Dev nD) (i : DmaSem sig) (hi : 3 ≤ i.val) : dc c i ∈ barCells ∪ ownCells := by
  have h17 : i.val < 17 := i.isLt
  refine Finset.mem_union_right _ (Finset.mem_map.mpr ⟨(c, ⟨i.val - 3, by omega⟩), Finset.mem_univ _, ?_⟩)
  show dc c (ownI ⟨i.val - 3, by omega⟩) = dc c i
  have : ownI ⟨i.val - 3, by omega⟩ = i := by
    apply Fin.ext; rw [ownI_val]; show 3 + (i.val - 3) = i.val; omega
  rw [this]

/-- Every cell's invariant, at the names K. -/
def invs (K : GSem nD τ sig → ℕ) : sProp 𝕄 := bigSep (barCells ∪ ownCells) (fun g => cellInv ER (talkRd D) (K g) g)

/-- The cells' invariants can be kept. -/
instance invs_persistent (K : GSem nD τ sig → ℕ) : BI.Persistent (invs D K) := by unfold invs; infer_instance

/-- In particular that of a barrier cell. -/
theorem inv_bar (K : GSem nD τ sig → ℕ) (c : Dev nD) : invs D K ⊢ cellInv ER (talkRd D) (K (bar c)) (bar c) := by
  unfold invs; exact BI.bigSep_elim (bar_mem c)
/-- In particular that of a copy cell. -/
theorem inv_dma (K : GSem nD τ sig → ℕ) (c : Dev nD) (i : DmaSem sig) (hi : 3 ≤ i.val) :
    invs D K ⊢ cellInv ER (talkRd D) (K (dc c i)) (dc c i) := by
  unfold invs; exact BI.bigSep_elim (dc_mem c i hi)

/-! ## Loads and stores -/

section Mem

variable {α : Type} {Q : α → sProp (MT nD τ sig Unit (Elt F) ℕ UU ℕ)} (c : Dev nD)

/-- A slot covers the elements of its rectangle. -/
theorem slot_set (M : Memref sig .tc .vmem S3x160x512 .bf16) (k : ℕ) (h : In3 k) :
    (slotM M k h).view.set = (M.access (sRect k h)).set := View.set_reshape _ _

/-- Loading a slot that reads v yields v. -/
theorem load_is (M : Memref sig .tc .vmem S3x160x512 .bf16) (k : ℕ) (h : In3 k) (v : Vec F S1x160x512 .bf16)
    {hl : M.view.LoadsAt (sRect k h).toLoadRect} {kk : (S1x160x512.Idx → Elt F .bf16) → Prog (TpuEff nD τ sig (Elt F) Λ₀ .tc) α} :
    slotIs M k h c v ⊢ iprop((slotIs M k h c v -∗ wp frame (wpE (defs₀ (F := F)) 𝒱₀ c none) Set.univ (kk v) Q)
      -∗ wp frame (wpE (defs₀ (F := F)) 𝒱₀ c none) Set.univ (.op (.load M (sRect k h).toLoadRect hl) kk) Q) := by
  unfold slotIs
  iintro ⟨%f, H, %hf⟩ Hk
  iapply (wp_load_rect 𝒱₀ (c : Thread nD τ) none Set.univ (m := M) (r := sRect k h) (S := (slotM M k h).view.set) (f := f)
    (by rw [slot_set])) $$ H
  iintro H
  rw [hf]
  iapply Hk
  iexists f
  isplitl [H]; · iexact H
  ipureintro; exact hf

/-- Loading a slot of unnamed contents yields something. -/
theorem load_any (M : Memref sig .tc .vmem S3x160x512 .bf16) (k : ℕ) (h : In3 k)
    {hl : M.view.LoadsAt (sRect k h).toLoadRect} {kk : (S1x160x512.Idx → Elt F .bf16) → Prog (TpuEff nD τ sig (Elt F) Λ₀ .tc) α} :
    slotAny M k h c ⊢ iprop((∀ v, slotAny M k h c -∗ wp frame (wpE (defs₀ (F := F)) 𝒱₀ c none) Set.univ (kk v) Q)
      -∗ wp frame (wpE (defs₀ (F := F)) 𝒱₀ c none) Set.univ (.op (.load M (sRect k h).toLoadRect hl) kk) Q) := by
  unfold slotAny
  iintro ⟨%f, H⟩ Hk
  iapply (wp_load_rect 𝒱₀ (c : Thread nD τ) none Set.univ (m := M) (r := sRect k h) (S := (slotM M k h).view.set) (f := f)
    (by rw [slot_set])) $$ H
  iintro H
  iapply Hk
  iexists f; iexact H

/-- Storing v into a slot. -/
theorem store_slot (M : Memref sig .tc .vmem S3x160x512 .bf16) (k : ℕ) (h : In3 k) (v : Vec F S1x160x512 .bf16)
    {hx : (M.access (sRect k h)).Stores Finset.univ} {hm : Finset.univ = Finset.univ ∨ ∀ a, (sRect k h).stride a = 1}
    {kk : PUnit → Prog (TpuEff nD τ sig (Elt F) Λ₀ .tc) α} :
    slotAny M k h c ⊢ iprop((slotIs M k h c v -∗ wp frame (wpE (defs₀ (F := F)) 𝒱₀ c none) Set.univ (kk ⟨⟩) Q)
      -∗ wp frame (wpE (defs₀ (F := F)) 𝒱₀ c none) Set.univ (.op (.store M (sRect k h) v Finset.univ hx hm) kk) Q) := by
  unfold slotAny slotIs
  iintro ⟨%f, H⟩ Hk
  iapply (wp_store 𝒱₀ (c : Thread nD τ) none Set.univ (m := M) (r := sRect k h) (w := v) (Mk := Finset.univ) (hx := hx) (hm := hm)
    (S := (slotM M k h).view.set) (f := f) (by rw [slot_set]; exact Finset.Subset.refl _)) $$ H
  iintro H
  iapply Hk
  iexists _
  isplitl [H]; · iexact H
  ipureintro
  exact View.read_write_univ _ _

/-- Loading a rectangle of a buffer held whole. -/
theorem load_pt {cs : CoreSpace} (i : Fin (sig.nNear .tc cs)) (hκ : sig.names .tc cs i = true)
    (r : Rect (sig.tyNear .tc cs i).shape) (f : (sig.tyNear .tc cs i).Contents (Elt F))
    {hl : (Memref.whole ⟨cs, i, hκ⟩ : Memref sig .tc _ _ _).view.LoadsAt r.toLoadRect}
    {kk : (r.shape.Idx → Elt F (sig.tyNear .tc cs i).elt) → Prog (TpuEff nD τ sig (Elt F) Λ₀ .tc) α} :
    pt c ⟨cs, i, hκ⟩ f ⊢ iprop((pt c ⟨cs, i, hκ⟩ f -∗ wp frame (wpE (defs₀ (F := F)) 𝒱₀ c none) Set.univ
        (kk (((Memref.whole ⟨cs, i, hκ⟩ : Memref sig .tc _ _ _).access r).read (Elt F) f)) Q)
      -∗ wp frame (wpE (defs₀ (F := F)) 𝒱₀ c none) Set.univ (.op (.load (Memref.whole ⟨cs, i, hκ⟩) r.toLoadRect hl) kk) Q) :=
  wp_load_rect 𝒱₀ (c : Thread nD τ) none Set.univ (m := Memref.whole ⟨cs, i, hκ⟩) (r := r) (f := f) (View.set_slice_subset _ _)

end Mem

/-! ## Signals, waits, transfers -/

section Sync

variable {α : Type} {Q : α → sProp (MT nD τ sig Unit (Elt F) ℕ UU ℕ)} (K : GSem nD τ sig → ℕ) (c : Dev nD)

/-- Signalling peer p's barrier cell, duty e. -/
theorem sig_step (p : Dev nD) (e : Fin 3) (O₀ O : CellTallies nD τ sig Unit) (hO : O₀ = O + tallyAt (bar p) () 1) {W : Waits sig Unit}
    {kk : PUnit → Prog (TpuEff nD τ sig (Elt F) Λ₀ .tc) α} :
    iprop(invs D K ∗ owes (c : Thread nD τ) O₀ W ∗ dutyTok ER (bar p) 0 e ∗ barPay p e ∗ reached ER (bar p) 0)
      ⊢ iprop((owes (c : Thread nD τ) O W -∗ wp frame (wpE (defs₀ (F := F)) 𝒱₀ c none) Set.univ (kk ⟨⟩) Q)
        -∗ wp frame (wpE (defs₀ (F := F)) 𝒱₀ c none) Set.univ (.op (.semSignal (p : Thread nD τ) barrier0 (1 : ℕ)) kk) Q) := by
  iintro ⟨#HI, HO, Ht, Hp, #Hr⟩
  iapply (Rounds.wp_signal 𝒱₀ ER (talkRd D) (c : Thread nD τ) none (dst := (p : Thread nD τ)) (sem := barrier0) (r := 0) (d := e)
      (κ := K (bar p)) (mem_bar D p e) (amount_bar D p e) () O hO) $$ [HO Ht Hp]
  isplitr; · iapply (inv_bar D K p); iexact HI
  isplitl [HO]; · iexact HO
  isplitl [Ht]; · iexact Ht
  isplitl [Hp]; · ihave Hp' := (Entails.of_eq (payload_bar D p e).symm) $$ Hp; iexact Hp'
  iexact Hr

/-- Waiting for the three barrier units. -/
theorem wait_bar {O : CellTallies nD τ sig Unit} (hO : Above 1 O) {W : Waits sig Unit}
    {kk : PUnit → Prog (TpuEff nD τ sig (Elt F) Λ₀ .tc) α} :
    iprop(invs D K ∗ cred (tallyAt (bar c) () 3) ∗ owes (c : Thread nD τ) O W ∗ levAts L lv ∗ atPos ER (bar c) 0 ∅ 0)
      ⊢ iprop(((owes (c : Thread nD τ) O (insert (.reg barrier0, ()) W) ∗ atPos ER (bar c) 1 ∅ 0
            ∗ barPay c 0 ∗ barPay c 1 ∗ barPay c 2) -∗ wp frame (wpE (defs₀ (F := F)) 𝒱₀ c none) Set.univ (kk ⟨⟩) Q)
        -∗ wp frame (wpE (defs₀ (F := F)) 𝒱₀ c none) Set.univ (.op (.semWait barrier0 (3 : ℕ)) kk) Q) := by
  iintro ⟨#HI, Hc, HO, #Hlev, Hat⟩ Hk
  iapply (Rounds.wp_wait_rest_token 𝒱₀ ER (talkRd D) (c : Thread nD τ) none (κ := K (bar c))
      (wpE_semWait_eq 𝒱₀ (c : Thread nD τ) none Set.univ) (Set.mem_univ _) () (O := O) (W := W) (R := 0) (m := 0) (T := ∅)
      ((Nat.zero_add 3).trans (expect_bar D c).symm)) $$ [Hc HO Hat]
  · isplitr; · iapply (inv_bar D K c); iexact HI
    isplitl [Hc]; · iexact Hc
    isplitl [HO]; · iexact HO
    isplitr; · iapply (mayWait c (.reg barrier0) O hO (Nat.le_refl 1)); iexact Hlev
    iexact Hat
  iintro ⟨HO, Hat, -, Hpay⟩
  ihave Hp := (Entails.of_eq (rest_bar D c)) $$ Hpay
  iapply Hk
  isplitl [HO]; · iexact HO
  isplitl [Hat]; · iexact Hat
  iexact Hp

/-- Waiting on one of the kernel's own transfer cells. -/
theorem wait_dma (i : DmaSem sig) (hi : 3 ≤ i.val) {n : ℕ} {O : CellTallies nD τ sig Unit} (hO : Above n O)
    (hl : lv (dc c i) () ≤ n) {W : Waits sig Unit}
    {sp sp' : Space} {s s' : Shape} {e e' : EltTy} {src : Memref sig .tc sp' s' e'} {dst : Memref sig .tc sp s e}
    (hN : dst.view.dmaCredit = dmaAmt i.val)
    {hsrc : src.view.WordExact} {hdst : dst.view.WordExact}
    {kk : PUnit → Prog (TpuEff nD τ sig (Elt F) Λ₀ .tc) α} :
    iprop(invs D K ∗ cred (tallyAt (dc c i) () (dmaAmt i.val)) ∗ owes (c : Thread nD τ) O W ∗ levAts L lv ∗ atPos ER (dc c i) 0 ∅ 0)
      ⊢ iprop(((owes (c : Thread nD τ) O (insert (.dma i, ()) W) ∗ atPos ER (dc c i) 1 ∅ 0 ∗ dmaPay D c i.val)
            -∗ wp frame (wpE (defs₀ (F := F)) 𝒱₀ c none) Set.univ (kk ⟨⟩) Q)
        -∗ wp frame (wpE (defs₀ (F := F)) 𝒱₀ c none) Set.univ (.op (.waitDma2 i src dst hsrc hdst) kk) Q) := by
  iintro ⟨#HI, Hc, HO, #Hlev, Hat⟩ Hk
  iapply (Rounds.wp_wait_rest_token 𝒱₀ ER (talkRd D) (c : Thread nD τ) none (κ := K (dc c i)) (k' := dmaAmt i.val)
      (fun K' => (wpE_waitDma2_eq (src := src) (dst := dst) (hsrc := hsrc) (hdst := hdst) 𝒱₀ (c : Thread nD τ) none Set.univ K').trans (by rw [hN])) (Set.mem_univ _) () (O := O) (W := W) (R := 0) (m := 0) (T := ∅)
      ((Nat.zero_add _).trans (expect_dma D c i hi).symm)) $$ [Hc HO Hat]
  · isplitr; · iapply (inv_dma D K c i hi); iexact HI
    isplitl [Hc]; · iexact Hc
    isplitl [HO]; · iexact HO
    isplitr; · iapply (mayWait c (.dma i) O hO hl); iexact Hlev
    iexact Hat
  iintro ⟨HO, Hat, -, Hpay⟩
  ihave Hp := (Entails.of_eq (rest_dma D c i hi)) $$ Hpay
  iapply Hk
  isplitl [HO]; · iexact HO
  isplitl [Hat]; · iexact Hat
  iexact Hp

/-- A slot rewritten by a transfer from another slot reads as that slot did. -/
theorem landed_read (src dst : Memref sig .tc .vmem S3x160x512 .bf16) (k : ℕ) (h : In3 k)
    (fs : src.view.ty.Contents (Elt F)) (fd : dst.view.ty.Contents (Elt F)) :
    (dst.access (sRect k h)).read (Elt F) ((slotM dst k h).view.write (Elt F) fd ((slotM src k h).view.read (Elt F) fs) Finset.univ)
      = (src.access (sRect k h)).read (Elt F) fs := by
  funext x
  have e := congrFun (View.read_write_univ (v := (slotM dst k h).view) fd ((slotM src k h).view.read (Elt F) fs))
    ((Shape.reshapeEquiv (Facts₀.squeezes_S1x160x512_S160x512).numel_eq).symm x)
  have hx : Shape.reshapeEquiv (Facts₀.squeezes_S1x160x512_S160x512).numel_eq
      ((Shape.reshapeEquiv (Facts₀.squeezes_S1x160x512_S160x512).numel_eq).symm x) = x := Equiv.apply_symm_apply _ _
  have a1 : ∀ (M : Memref sig .tc .vmem S3x160x512 .bf16) (g : M.view.ty.Contents (Elt F)) (y : S160x512.Idx),
      (slotM M k h).view.read (Elt F) g y
        = (M.access (sRect k h)).read (Elt F) g (Shape.reshapeEquiv (Facts₀.squeezes_S1x160x512_S160x512).numel_eq y) := fun _ _ _ => rfl
  rw [a1, a1] at e
  rw [hx] at e
  exact e

/-- Sending a slot to peer p. -/
theorem send_step (p : Dev nD) (src dst : Memref sig .tc .vmem S3x160x512 .bf16) (k : ℕ) (h : In3 k) (v : Vec F S1x160x512 .bf16)
    (i j : DmaSem sig) (hi : 3 ≤ i.val) (hj : 3 ≤ j.val) (hNi : dmaAmt i.val = N) (hNj : dmaAmt j.val = N)
    (hN : (slotM dst k h).view.dmaCredit = N)
    (hpi : dmaPay D c i.val = slotAny src k h c) (hpj : dmaPay D p j.val = slotIs dst k h p v)
    (O₀ O : CellTallies nD τ sig Unit) (hO : O₀ = O + tallyAt (dc p j) () N) {W : Waits sig Unit}
    {hsc : (slotM dst k h).view.ref.isScScratch = false}
    {hsrc : (slotM src k h).view.WordExact} {hdst : (slotM dst k h).view.WordExact}
    {hsem : DmaTarget.Typed (CoreSpace.vmem : Space) (.dma j) (.remote (p : Thread nD τ) (slotM dst k h) (.dma i) hsc)}
    {kk : PUnit → Prog (TpuEff nD τ sig (Elt F) Λ₀ .tc) α} :
    iprop(invs D K ∗ slotIs src k h c v ∗ slotAny dst k h p ∗ owes (c : Thread nD τ) O₀ W
        ∗ dutyTok ER (dc c i) 0 0 ∗ reached ER (dc c i) 0 ∗ dutyTok ER (dc p j) 0 0 ∗ reached ER (dc p j) 0)
      ⊢ iprop(((cred (tallyAt (dc c i) () N) ∗ owes (c : Thread nD τ) O W)
            -∗ wp frame (wpE (defs₀ (F := F)) 𝒱₀ c none) Set.univ (kk ⟨⟩) Q)
        -∗ wp frame (wpE (defs₀ (F := F)) 𝒱₀ c none) Set.univ
            (.op (.enqueueDma (slotM src k h) (.remote (p : Thread nD τ) (slotM dst k h) (.dma i) hsc) (.dma j) hsrc hdst hsem) kk) Q) := by
  unfold slotIs slotAny
  iintro ⟨#HI, ⟨%fs, Hs, %hf⟩, ⟨%fd, Hd⟩, HO, Hti, #Hri, Htj, #Hrj⟩
  iapply (Rounds.wp_send_pointsTo 𝒱₀ ER (talkRd D) (c : Thread nD τ) none (c' := (p : Thread nD τ)) (src := slotM src k h) (dst := slotM dst k h)
      (sS := .dma i) (sem := .dma j) (q := fullShare) (fs := fs) (κ₁ := K (dc c i)) (κ₂ := K (dc p j))
      (r₁ := 0) (r₂ := 0) (d₁ := 0) (d₂ := 0) (fd := fd)
      (mem_dma D c i hi) (mem_dma D p j hj) () () N hN ((amount_dma D c i 0).trans hNi) ((amount_dma D p j 0).trans hNj) O hO (W := W)
      (by
        show _ ⊢ dmaPay D c i.val
        rw [hpi]; unfold slotAny
        iintro H; iexists fs; iexact H)
      (by
        show _ ⊢ dmaPay D p j.val
        rw [hpj]; unfold slotIs
        iintro H; iexists _
        isplitl [H]; · iexact H
        ipureintro
        rw [← hf]
        exact landed_read src dst k h fs fd)) $$ [Hs Hd HO Hti Htj]
  isplitr; · iapply (inv_dma D K c i hi); iexact HI
  isplitr; · iapply (inv_dma D K p j hj); iexact HI
  isplitl [Hs]; · iexact Hs
  isplitl [Hd]; · iexact Hd
  isplitl [HO]; · iexact HO
  isplitl [Hti]; · iexact Hti
  isplitr; · iexact Hri
  isplitl [Htj]; · iexact Htj
  iexact Hrj

/-- The same, with the peer and the two cells named as the kernel's text names them. -/
theorem send_named (p q : Dev nD) (hq : q = p) (src dst : Memref sig .tc .vmem S3x160x512 .bf16) (k : ℕ) (h : In3 k) (v : Vec F S1x160x512 .bf16)
    (i j i' j' : DmaSem sig) (ei : i' = i) (ej : j' = j) (hi : 3 ≤ i.val) (hj : 3 ≤ j.val) (hNi : dmaAmt i.val = N) (hNj : dmaAmt j.val = N)
    (hN : (slotM dst k h).view.dmaCredit = N)
    (hpi : dmaPay D c i.val = slotAny src k h c) (hpj : dmaPay D p j.val = slotIs dst k h p v)
    (O₀ O : CellTallies nD τ sig Unit) (hO : O₀ = O + tallyAt (dc p j) () N) {W : Waits sig Unit}
    {hsc : (slotM dst k h).view.ref.isScScratch = false}
    {hsrc : (slotM src k h).view.WordExact} {hdst : (slotM dst k h).view.WordExact}
    {hsem : DmaTarget.Typed (CoreSpace.vmem : Space) (.dma j') (.remote (q : Thread nD τ) (slotM dst k h) (.dma i') hsc)}
    {kk : PUnit → Prog (TpuEff nD τ sig (Elt F) Λ₀ .tc) α} :
    iprop(invs D K ∗ slotIs src k h c v ∗ slotAny dst k h p ∗ owes (c : Thread nD τ) O₀ W
        ∗ dutyTok ER (dc c i) 0 0 ∗ reached ER (dc c i) 0 ∗ dutyTok ER (dc p j) 0 0 ∗ reached ER (dc p j) 0)
      ⊢ iprop(((cred (tallyAt (dc c i) () N) ∗ owes (c : Thread nD τ) O W)
            -∗ wp frame (wpE (defs₀ (F := F)) 𝒱₀ c none) Set.univ (kk ⟨⟩) Q)
        -∗ wp frame (wpE (defs₀ (F := F)) 𝒱₀ c none) Set.univ
            (.op (.enqueueDma (slotM src k h) (.remote (q : Thread nD τ) (slotM dst k h) (.dma i') hsc) (.dma j') hsrc hdst hsem) kk) Q) := by
  subst hq; subst ei; subst ej
  exact send_step D K c q src dst k h v i' j' hi hj hNi hNj hN hpi hpj O₀ O hO

/-- A local copy of a whole buffer into another. -/
theorem copy_step {s : Shape} {e : EltTy} {sp sp' : Space} (src : Memref sig .tc sp s e) (dst : Memref sig .tc sp' s e)
    (i : DmaSem sig) (hi : 3 ≤ i.val) (n : ℕ) (hNi : dmaAmt i.val = n) (hN : dst.view.dmaCredit = n)
    (fs : Buf (Elt F) (src.view.loc (c : Thread nD τ))) (fd : Buf (Elt F) (dst.view.loc (c : Thread nD τ)))
    (hp : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ dmaPay D c i.val)
    {hsrc : src.view.WordExact} {hdst : dst.view.WordExact} {hsem : DmaTarget.Typed (nD := nD) (τ := τ) (p := .tc) sp (.dma i) (.here dst)}
    {kk : PUnit → Prog (TpuEff nD τ sig (Elt F) Λ₀ .tc) α} :
    iprop(invs D K ∗ (src.view.loc (c : Thread nD τ) ↦[src.view.set]{fullShare} fs) ∗ (dst.view.loc (c : Thread nD τ) ↦[dst.view.set]{fullShare} fd)
        ∗ dutyTok ER (dc c i) 0 0 ∗ reached ER (dc c i) 0)
      ⊢ iprop((cred (tallyAt (dc c i) () n) -∗ wp frame (wpE (defs₀ (F := F)) 𝒱₀ c none) Set.univ (kk ⟨⟩) Q)
        -∗ wp frame (wpE (defs₀ (F := F)) 𝒱₀ c none) Set.univ (.op (.enqueueDma src (.here dst) (.dma i) hsrc hdst hsem) kk) Q) := by
  iintro ⟨#HI, Hs, Hd, Ht, #Hr⟩
  iapply (Rounds.wp_copy_pointsTo 𝒱₀ ER (talkRd D) (c : Thread nD τ) none (src := src) (dst := dst) (sem := .dma i) (q := fullShare)
      (fs := fs) (fd := fd) (r := 0) (d := 0) (κ := K (dc c i)) (mem_dma D c i hi) () n hN ((amount_dma D c i 0).trans hNi) hp) $$ [Hs Hd Ht]
  isplitr; · iapply (inv_dma D K c i hi); iexact HI
  isplitl [Hs]; · iexact Hs
  isplitl [Hd]; · iexact Hd
  isplitl [Ht]; · iexact Ht
  iexact Hr

end Sync

end Cert.KernelIdeal.Talk

end
-- ==== Proof.Body1.lean ====
/-
  The kernel's body, part by part in the order it runs, on one device: what each part needs, what it leaves.
-/
module

public import proofs.«01_k».proof.Proof.Steps

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Data F)

/-! ## Names for what is held -/

/-- What core c owes, after some waits. -/
def ow (c : Dev nD) (O : CellTallies nD τ sig Unit) : sProp 𝕄 := iprop(∃ W, owes (c : Thread nD τ) O W)
/-- Cell i of c stands at the start of round r. -/
abbrev At (c : Dev nD) (i : DmaSem sig) (r : ℕ) : sProp 𝕄 := atPos ER (dc c i) r ∅ 0
/-- The credit that the one payment of cell i of c is. -/
abbrev Cr (c : Dev nD) (i : DmaSem sig) : sProp 𝕄 := cred (tallyAt (dc c i) () (dmaAmt i.val))
/-- The right to pay cell i of c, once. -/
abbrev Tok (c : Dev nD) (i : DmaSem sig) : sProp 𝕄 := dutyTok ER (dc c i) 0 0
/-- Cell i of c is open. -/
abbrev Rch (c : Dev nD) (i : DmaSem sig) : sProp 𝕄 := reached ER (dc c i) 0

/-! ## Reading the tables -/

/-- The table has four blocks: block numbers that agree modulo 4 name one block. -/
theorem ps_congr (c : Dev nD) {j k : ℕ} (h : j % 4 = k % 4) : ps D c j = ps D c k := by
  have : ∀ a b (ha : a < 4) (hb : b < 4), a = b →
      (pM.access (Rect.unit (s := S4x160x512) ![a, 0, 0] S1x160x512.size (in4' a ha))).read (Elt F) (D.p c)
        = (pM.access (Rect.unit (s := S4x160x512) ![b, 0, 0] S1x160x512.size (in4' b hb))).read (Elt F) (D.p c) := by
    intro a b ha hb e; subst e; rfl
  exact this _ _ (Nat.mod_lt _ (by decide)) (Nat.mod_lt _ (by decide)) h

/-- So too for the rows dispatched. -/
theorem disp_congr (c : Dev nD) {j k : ℕ} (h : j % 4 = k % 4) : disp D c j = disp D c k := by
  unfold disp; rw [ps_congr D c h]

section Load
variable {α : Type} {Q : α → sProp (MT nD τ sig Unit (Elt F) ℕ UU ℕ)} (c : Dev nD)

/-- Loading block j of the dispatch table. -/
theorem load_slab (j : ℕ) (off : Fin 3 → ℕ) (ho : off = ![j % 4, 0, 0]) (inb : ∀ a, off a + S1x160x512.size a ≤ S4x160x512.size a)
    {hl : pM.view.LoadsAt (Rect.unit (s := S4x160x512) off S1x160x512.size inb).toLoadRect}
    {kk : (S1x160x512.Idx → Elt F .bf16) → Prog (TpuEff nD τ sig (Elt F) Λ₀ .tc) α} :
    pt c cc0_stg1_0 (D.p c) ⊢ iprop((pt c cc0_stg1_0 (D.p c) -∗ wp frame (wpE (defs₀ (F := F)) 𝒱₀ c none) Set.univ (kk (ps D c j)) Q)
      -∗ wp frame (wpE (defs₀ (F := F)) 𝒱₀ c none) Set.univ
          (.op (.load pM (Rect.unit (s := S4x160x512) off S1x160x512.size inb).toLoadRect hl) kk) Q) := by
  subst ho
  exact load_pt c (cs := .vmem) 1 rfl (Rect.unit (s := S4x160x512) ![j % 4, 0, 0] S1x160x512.size inb) (D.p c)

/-- Loading the tokens. -/
theorem load_x {hl : xM.view.LoadsAt (Rect.unit (s := S512x512) ![0, 0] S512x512.size Facts₀.inb_S512x512_S512x512_0_0).toLoadRect}
    {kk : (S512x512.Idx → Elt F .f32) → Prog (TpuEff nD τ sig (Elt F) Λ₀ .tc) α} :
    pt c cc0_stg0_0 (D.x c) ⊢ iprop((pt c cc0_stg0_0 (D.x c) -∗ wp frame (wpE (defs₀ (F := F)) 𝒱₀ c none) Set.univ (kk (xs D c)) Q)
      -∗ wp frame (wpE (defs₀ (F := F)) 𝒱₀ c none) Set.univ
          (.op (.load xM (Rect.unit (s := S512x512) ![0, 0] S512x512.size Facts₀.inb_S512x512_S512x512_0_0).toLoadRect hl) kk) Q) :=
  load_pt c (cs := .vmem) 0 rfl (Rect.unit (s := S512x512) ![0, 0] S512x512.size Facts₀.inb_S512x512_S512x512_0_0) (D.x c)

/-- Loading the result's staging block, at whatever it holds. -/
theorem load_y (f : (cc0_stg2_0 : Ref sig .tc).ty.Contents (Elt F))
    {hl : yM.view.LoadsAt (Rect.unit (s := S512x512) ![0, 0] S512x512.size Facts₀.inb_S512x512_S512x512_0_0).toLoadRect}
    {kk : (S512x512.Idx → Elt F .f32) → Prog (TpuEff nD τ sig (Elt F) Λ₀ .tc) α} :
    pt c cc0_stg2_0 f ⊢ iprop((∀ v, pt c cc0_stg2_0 f -∗ wp frame (wpE (defs₀ (F := F)) 𝒱₀ c none) Set.univ (kk v) Q)
      -∗ wp frame (wpE (defs₀ (F := F)) 𝒱₀ c none) Set.univ
          (.op (.load yM (Rect.unit (s := S512x512) ![0, 0] S512x512.size Facts₀.inb_S512x512_S512x512_0_0).toLoadRect hl) kk) Q) := by
  iintro H Hk
  iapply (load_pt c (cs := .vmem) 2 rfl (Rect.unit (s := S512x512) ![0, 0] S512x512.size Facts₀.inb_S512x512_S512x512_0_0) f) $$ H
  iintro H
  iapply Hk; iexact H

/-- Loading the first slab of the first weights gives the first expert's. -/
theorem load_wAv {hl : w1M.view.LoadsAt (Rect.unit (s := S2x512x1024) ![0, 0, 0] S1x512x1024.size Facts₀.inb_S2x512x1024_S1x512x1024_0_0_0).toLoadRect}
    {kk : (S1x512x1024.Idx → Elt F .f32) → Prog (TpuEff nD τ sig (Elt F) Λ₀ .tc) α} :
    pt c cc0_scratch4 (D.w1 c) ⊢ iprop((pt c cc0_scratch4 (D.w1 c) -∗ wp frame (wpE (defs₀ (F := F)) 𝒱₀ c none) Set.univ (kk (wAv D c)) Q)
      -∗ wp frame (wpE (defs₀ (F := F)) 𝒱₀ c none) Set.univ
          (.op (.load w1M (Rect.unit (s := S2x512x1024) ![0, 0, 0] S1x512x1024.size Facts₀.inb_S2x512x1024_S1x512x1024_0_0_0).toLoadRect hl) kk) Q) :=
  load_pt c (cs := .vmem) 7 rfl (Rect.unit (s := S2x512x1024) ![0, 0, 0] S1x512x1024.size Facts₀.inb_S2x512x1024_S1x512x1024_0_0_0) (D.w1 c)

/-- Loading the second slab of the first weights gives the second expert's. -/
theorem load_wBv {hl : w1M.view.LoadsAt (Rect.unit (s := S2x512x1024) ![1, 0, 0] S1x512x1024.size Facts₀.inb_S2x512x1024_S1x512x1024_1_0_0).toLoadRect}
    {kk : (S1x512x1024.Idx → Elt F .f32) → Prog (TpuEff nD τ sig (Elt F) Λ₀ .tc) α} :
    pt c cc0_scratch4 (D.w1 c) ⊢ iprop((pt c cc0_scratch4 (D.w1 c) -∗ wp frame (wpE (defs₀ (F := F)) 𝒱₀ c none) Set.univ (kk (wBv D c)) Q)
      -∗ wp frame (wpE (defs₀ (F := F)) 𝒱₀ c none) Set.univ
          (.op (.load w1M (Rect.unit (s := S2x512x1024) ![1, 0, 0] S1x512x1024.size Facts₀.inb_S2x512x1024_S1x512x1024_1_0_0).toLoadRect hl) kk) Q) :=
  load_pt c (cs := .vmem) 7 rfl (Rect.unit (s := S2x512x1024) ![1, 0, 0] S1x512x1024.size Facts₀.inb_S2x512x1024_S1x512x1024_1_0_0) (D.w1 c)

/-- Loading the first slab of the second weights gives the first expert's. -/
theorem load_wCv {hl : w2M.view.LoadsAt (Rect.unit (s := S2x1024x512) ![0, 0, 0] S1x1024x512.size Facts₀.inb_S2x1024x512_S1x1024x512_0_0_0).toLoadRect}
    {kk : (S1x1024x512.Idx → Elt F .f32) → Prog (TpuEff nD τ sig (Elt F) Λ₀ .tc) α} :
    pt c cc0_scratch5 (D.w2 c) ⊢ iprop((pt c cc0_scratch5 (D.w2 c) -∗ wp frame (wpE (defs₀ (F := F)) 𝒱₀ c none) Set.univ (kk (wCv D c)) Q)
      -∗ wp frame (wpE (defs₀ (F := F)) 𝒱₀ c none) Set.univ
          (.op (.load w2M (Rect.unit (s := S2x1024x512) ![0, 0, 0] S1x1024x512.size Facts₀.inb_S2x1024x512_S1x1024x512_0_0_0).toLoadRect hl) kk) Q) :=
  load_pt c (cs := .vmem) 8 rfl (Rect.unit (s := S2x1024x512) ![0, 0, 0] S1x1024x512.size Facts₀.inb_S2x1024x512_S1x1024x512_0_0_0) (D.w2 c)

/-- Loading the second slab of the second weights gives the second expert's. -/
theorem load_wDv {hl : w2M.view.LoadsAt (Rect.unit (s := S2x1024x512) ![1, 0, 0] S1x1024x512.size Facts₀.inb_S2x1024x512_S1x1024x512_1_0_0).toLoadRect}
    {kk : (S1x1024x512.Idx → Elt F .f32) → Prog (TpuEff nD τ sig (Elt F) Λ₀ .tc) α} :
    pt c cc0_scratch5 (D.w2 c) ⊢ iprop((pt c cc0_scratch5 (D.w2 c) -∗ wp frame (wpE (defs₀ (F := F)) 𝒱₀ c none) Set.univ (kk (wDv D c)) Q)
      -∗ wp frame (wpE (defs₀ (F := F)) 𝒱₀ c none) Set.univ
          (.op (.load w2M (Rect.unit (s := S2x1024x512) ![1, 0, 0] S1x1024x512.size Facts₀.inb_S2x1024x512_S1x1024x512_1_0_0).toLoadRect hl) kk) Q) :=
  load_pt c (cs := .vmem) 8 rfl (Rect.unit (s := S2x1024x512) ![1, 0, 0] S1x1024x512.size Facts₀.inb_S2x1024x512_S1x1024x512_1_0_0) (D.w2 c)

/-- The offsets of a whole block are the zero function. -/
theorem zero2 : (![0, 0] : Fin 2 → ℕ) = fun _ => 0 := by
  funext a; match a with | 0 => rfl | 1 => rfl

/-- Reading the whole token block gives its contents. -/
theorem read_zero (o : Fin 2 → ℕ) (ho : o = fun _ => 0) (inb : ∀ a, o a + S512x512.size a ≤ S512x512.size a)
    (f : (cc0_stg0_0 : Ref sig .tc).ty.Contents (Elt F)) :
    (xM.access (Rect.unit (s := S512x512) o S512x512.size inb)).read (Elt F) f = f := by
  subst ho; exact Memref.read_access_whole (Elt F) cc0_stg0_0 f

/-- Writing the whole result block leaves what was written. -/
theorem write_zero (o : Fin 2 → ℕ) (ho : o = fun _ => 0) (inb : ∀ a, o a + S512x512.size a ≤ S512x512.size a)
    (f w : (cc0_stg2_0 : Ref sig .tc).ty.Contents (Elt F)) :
    (yM.access (Rect.unit (s := S512x512) o S512x512.size inb)).write (Elt F) f w Finset.univ = w := by
  subst ho; exact Memref.write_access_whole_univ (Elt F) cc0_stg2_0 f w

/-- The tokens loaded are the tokens staged. -/
theorem xs_eq : xs D c = D.x c := read_zero _ zero2 _ _

/-- Storing the whole result block. -/
theorem store_y (f w : (cc0_stg2_0 : Ref sig .tc).ty.Contents (Elt F)) (inb : ∀ a, (![0, 0] : Fin 2 → ℕ) a + S512x512.size a ≤ S512x512.size a)
    {hx : (yM.access (Rect.unit (s := S512x512) ![0, 0] S512x512.size inb)).Stores Finset.univ}
    {hm : Finset.univ = Finset.univ ∨ ∀ a, (Rect.unit (s := S512x512) ![0, 0] S512x512.size inb).stride a = 1}
    {kk : PUnit → Prog (TpuEff nD τ sig (Elt F) Λ₀ .tc) α} :
    pt c cc0_stg2_0 f ⊢ iprop((pt c cc0_stg2_0 w -∗ wp frame (wpE (defs₀ (F := F)) 𝒱₀ c none) Set.univ (kk ⟨⟩) Q)
      -∗ wp frame (wpE (defs₀ (F := F)) 𝒱₀ c none) Set.univ
          (.op (.store yM (Rect.unit (s := S512x512) ![0, 0] S512x512.size inb) w Finset.univ hx hm) kk) Q) := by
  iintro H Hk
  iapply (wp_store 𝒱₀ (c : Thread nD τ) none Set.univ (m := yM)
    (r := Rect.unit (s := S512x512) ![0, 0] S512x512.size inb) (w := w) (Mk := Finset.univ) (hx := hx) (hm := hm)
    (S := yM.view.set) (f := f) (View.set_slice_subset _ _)) $$ H
  iintro H
  ihave H' := (Entails.of_eq (congrArg (fun g => (pt c cc0_stg2_0 g : sProp 𝕄)) (write_zero _ zero2 inb f w))) $$ H
  iapply Hk; iexact H'

end Load

/-! ## What a device lends its peers, and what it sends them -/

/-- What c lends its first peer: the slots that peer fills, and that their receive cells are open. -/
theorem lend0 (c : Dev nD) :
    iprop(slotAny aM 2 (in3 (by decide)) c ∗ slotAny rM 0 (in3 (by decide)) c ∗ Rch c (frI 2) ∗ Rch c (rrI 0))
      ⊢ (barPay (peer 1 c) 0 : sProp 𝕄) := by unfold barPay; rw [peer_back (j := 3) (k := 1) (by decide)]
/-- What c lends its second peer. -/
theorem lend1 (c : Dev nD) :
    iprop(slotAny aM 1 (in3 (by decide)) c ∗ slotAny rM 1 (in3 (by decide)) c ∗ Rch c (frI 1) ∗ Rch c (rrI 1))
      ⊢ (barPay (peer 2 c) 1 : sProp 𝕄) := by unfold barPay; rw [peer_back (j := 2) (k := 2) (by decide)]
/-- What c lends its third peer. -/
theorem lend2 (c : Dev nD) :
    iprop(slotAny aM 0 (in3 (by decide)) c ∗ slotAny rM 2 (in3 (by decide)) c ∗ Rch c (frI 0) ∗ Rch c (rrI 2))
      ⊢ (barPay (peer 3 c) 2 : sProp 𝕄) := by unfold barPay; rw [peer_back (j := 1) (k := 3) (by decide)]

/-- The rows sent to the peer k + 1 places on are what lands in its arrival slot k. -/
theorem arr_peer (c : Dev nD) (j : ℕ) (hj : j < 3) : arr D (peer (j + 1) c) j = disp D c (pos c + (j + 1)) := by
  unfold arr; rw [peer_back (by omega)]
  apply disp_congr; rw [pos_peer]; omega

/-- The result sent back to the peer 3 - j places on is what lands in its return slot j. -/
theorem ret_peer (c : Dev nD) (j : ℕ) (hj : j < 3) : ret D (peer (3 - j) c) j = ffn D c (arr D c j) := by
  unfold ret arr; rw [peer_back (by omega)]
  congr 1
  apply disp_congr; rw [pos_peer]; omega

/-! ## The kernel's transfer cells, as its text names them -/

/-- The semaphore that the program slices out is send cell 0 of the dispatch. -/
theorem sem_fs0 : ((cc0_scratch6.slice (Rect.unit (s := S3) ![0] S1.size Facts₀.inb_S3_S1_0)).squeeze S_ Facts₀.squeezes_S1_S_).sem = fsI 0 := rfl
/-- The semaphore that the program slices out is send cell 1 of the dispatch. -/
theorem sem_fs1 : ((cc0_scratch6.slice (Rect.unit (s := S3) ![1] S1.size Facts₀.inb_S3_S1_1)).squeeze S_ Facts₀.squeezes_S1_S_).sem = fsI 1 := rfl
/-- The semaphore that the program slices out is send cell 2 of the dispatch. -/
theorem sem_fs2 : ((cc0_scratch6.slice (Rect.unit (s := S3) ![2] S1.size Facts₀.inb_S3_S1_2)).squeeze S_ Facts₀.squeezes_S1_S_).sem = fsI 2 := rfl
/-- The semaphore that the program slices out is receive cell 0 of the dispatch. -/
theorem sem_fr0 : ((cc0_scratch7.slice (Rect.unit (s := S3) ![0] S1.size Facts₀.inb_S3_S1_0)).squeeze S_ Facts₀.squeezes_S1_S_).sem = frI 0 := rfl
/-- The semaphore that the program slices out is receive cell 1 of the dispatch. -/
theorem sem_fr1 : ((cc0_scratch7.slice (Rect.unit (s := S3) ![1] S1.size Facts₀.inb_S3_S1_1)).squeeze S_ Facts₀.squeezes_S1_S_).sem = frI 1 := rfl
/-- The semaphore that the program slices out is receive cell 2 of the dispatch. -/
theorem sem_fr2 : ((cc0_scratch7.slice (Rect.unit (s := S3) ![2] S1.size Facts₀.inb_S3_S1_2)).squeeze S_ Facts₀.squeezes_S1_S_).sem = frI 2 := rfl
/-- The semaphore that the program slices out is send cell 0 of the return. -/
theorem sem_rs0 : ((cc0_scratch8.slice (Rect.unit (s := S3) ![0] S1.size Facts₀.inb_S3_S1_0)).squeeze S_ Facts₀.squeezes_S1_S_).sem = rsI 0 := rfl
/-- The semaphore that the program slices out is send cell 1 of the return. -/
theorem sem_rs1 : ((cc0_scratch8.slice (Rect.unit (s := S3) ![1] S1.size Facts₀.inb_S3_S1_1)).squeeze S_ Facts₀.squeezes_S1_S_).sem = rsI 1 := rfl
/-- The semaphore that the program slices out is send cell 2 of the return. -/
theorem sem_rs2 : ((cc0_scratch8.slice (Rect.unit (s := S3) ![2] S1.size Facts₀.inb_S3_S1_2)).squeeze S_ Facts₀.squeezes_S1_S_).sem = rsI 2 := rfl
/-- The semaphore that the program slices out is receive cell 0 of the return. -/
theorem sem_rr0 : ((cc0_scratch9.slice (Rect.unit (s := S3) ![0] S1.size Facts₀.inb_S3_S1_0)).squeeze S_ Facts₀.squeezes_S1_S_).sem = rrI 0 := rfl
/-- The semaphore that the program slices out is receive cell 1 of the return. -/
theorem sem_rr1 : ((cc0_scratch9.slice (Rect.unit (s := S3) ![1] S1.size Facts₀.inb_S3_S1_1)).squeeze S_ Facts₀.squeezes_S1_S_).sem = rrI 1 := rfl
/-- The semaphore that the program slices out is receive cell 2 of the return. -/
theorem sem_rr2 : ((cc0_scratch9.slice (Rect.unit (s := S3) ![2] S1.size Facts₀.inb_S3_S1_2)).squeeze S_ Facts₀.squeezes_S1_S_).sem = rrI 2 := rfl
/-- The semaphore that the program slices out is weight cell 0. -/
theorem sem_ws0 : ((cc0_scratch10.slice (Rect.unit (s := S2) ![0] S1.size Facts₀.inb_S2_S1_0)).squeeze S_ Facts₀.squeezes_S1_S_).sem = wI 0 := rfl
/-- The semaphore that the program slices out is weight cell 1. -/
theorem sem_ws1 : ((cc0_scratch10.slice (Rect.unit (s := S2) ![1] S1.size Facts₀.inb_S2_S1_1)).squeeze S_ Facts₀.squeezes_S1_S_).sem = wI 1 := rfl

/-- The signal of the program, as the operation of one unit on the barrier cell. -/
theorem signal_eq (p : Dev nD) : (semSignalWord (Val := Elt F) (Λ := Λ₀) (p := Proc.tc) (nD := nD) (τ := τ) p (SemArray.scalar (sig.barrier 0 rfl) : Sems sig S_).sem 1#32)
    = .op (.semSignal (p : Thread nD τ) barrier0 (1 : ℕ)) .ret := rfl
/-- The wait of the program, as the operation of three units on the barrier cell. -/
theorem wait_eq : (semWaitWord (Val := Elt F) (Λ := Λ₀) (p := Proc.tc) (nD := nD) (τ := τ) (SemArray.scalar (sig.barrier 0 rfl) : Sems sig S_).sem 3#32)
    = .op (.semWait barrier0 (3 : ℕ)) .ret := rfl

/-! ## The parts -/

section Parts
variable {Q0 : PUnit → sProp (MT nD τ sig Unit (Elt F) ℕ UU ℕ)} (K : GSem nD τ sig → ℕ) (c : Dev nD)

/-- A finished copy of the weights is what weight cell 0 hands over. -/
theorem pay_w0 (f : (cc0_scratch4 : Ref sig .tc).ty.Contents (Elt F)) :
    iprop((w1M.view.loc (c : Thread nD τ) ↦[w1M.view.set]{fullShare} (w1M.view.write (Elt F) f (g1M.view.read (Elt F) (D.w1 c)) Finset.univ))
        ∗ (g1M.view.loc (c : Thread nD τ) ↦[g1M.view.set]{fullShare} (D.w1 c))) ⊢ (dmaPay D c (wI 0).val : sProp 𝕄) := by
  rw [show w1M.view.write (Elt F) f (g1M.view.read (Elt F) (D.w1 c)) Finset.univ = (D.w1 c) from View.write_whole_univ _ _ _]
  exact BI.Entails.refl _
/-- A finished copy of the weights is what weight cell 1 hands over. -/
theorem pay_w1 (f : (cc0_scratch5 : Ref sig .tc).ty.Contents (Elt F)) :
    iprop((w2M.view.loc (c : Thread nD τ) ↦[w2M.view.set]{fullShare} (w2M.view.write (Elt F) f (g2M.view.read (Elt F) (D.w2 c)) Finset.univ))
        ∗ (g2M.view.loc (c : Thread nD τ) ↦[g2M.view.set]{fullShare} (D.w2 c))) ⊢ (dmaPay D c (wI 1).val : sProp 𝕄) := by
  rw [show w2M.view.write (Elt F) f (g2M.view.read (Elt F) (D.w2 c)) Finset.univ = (D.w2 c) from View.write_whole_univ _ _ _]
  exact BI.Entails.refl _
/-- The table offset that the program computes for its own block is the device's place. -/
theorem off2_eq : k0_off2 c = ![pos c % 4, 0, 0] := by
  rw [k0_off2_eq]; unfold pos; rw [Nat.mod_mod]
/-- The level of a copy cell: 3 for a return cell, 2 for an arrival cell, else 0. -/
theorem lv_dc (i : DmaSem sig) : lv (dc c i) () = if 12 ≤ i.val ∧ i.val < 15 then 3 else if 6 ≤ i.val ∧ i.val < 9 then 2 else 0 := rfl
/-- The payment of weight cell 0 is the size of its copy. -/
theorem amt_ws0 : w1M.view.dmaCredit = dmaAmt (wI 0).val := rfl
/-- The payment of weight cell 1 is the size of its copy. -/
theorem amt_ws1 : w2M.view.dmaCredit = dmaAmt (wI 1).val := rfl
/-- The level of weight cell 0 is at most 0. -/
theorem lv_ws0 : lv (dc c (wI 0)) () ≤ 0 := by rw [lv_dc]; decide
/-- The level of weight cell 1 is at most 0. -/
theorem lv_ws1 : lv (dc c (wI 1)) () ≤ 0 := by rw [lv_dc]; decide
/-- The payment of send cell 0 of the dispatch is the size of its copy. -/
theorem amt_fs0 : dmaAmt (fsI 0).val = N := rfl
/-- The level of send cell 0 of the dispatch is at most 3. -/
theorem lv_fs0 : lv (dc c (fsI 0)) () ≤ 3 := by rw [lv_dc]; decide
/-- The credit of send cell 0 of the dispatch, by its copy's size. -/
theorem cr_fs0 : cred (tallyAt (dc c (fsI 0)) () N) = (Cr c (fsI 0) : sProp 𝕄) :=
  congrArg (fun n => (cred (tallyAt (dc c (fsI 0)) () n) : sProp 𝕄)) amt_fs0.symm
/-- The payment of receive cell 0 of the dispatch is the size of its copy. -/
theorem amt_fr0 : dmaAmt (frI 0).val = N := rfl
/-- The level of receive cell 0 of the dispatch is at most 2. -/
theorem lv_fr0 : lv (dc c (frI 0)) () ≤ 2 := by rw [lv_dc]; decide
/-- The credit of receive cell 0 of the dispatch, by its copy's size. -/
theorem cr_fr0 : cred (tallyAt (dc c (frI 0)) () N) = (Cr c (frI 0) : sProp 𝕄) :=
  congrArg (fun n => (cred (tallyAt (dc c (frI 0)) () n) : sProp 𝕄)) amt_fr0.symm
/-- The payment of send cell 0 of the return is the size of its copy. -/
theorem amt_rs0 : dmaAmt (rsI 0).val = N := rfl
/-- The level of send cell 0 of the return is at most 3. -/
theorem lv_rs0 : lv (dc c (rsI 0)) () ≤ 3 := by rw [lv_dc]; decide
/-- The credit of send cell 0 of the return, by its copy's size. -/
theorem cr_rs0 : cred (tallyAt (dc c (rsI 0)) () N) = (Cr c (rsI 0) : sProp 𝕄) :=
  congrArg (fun n => (cred (tallyAt (dc c (rsI 0)) () n) : sProp 𝕄)) amt_rs0.symm
/-- The payment of receive cell 0 of the return is the size of its copy. -/
theorem amt_rr0 : dmaAmt (rrI 0).val = N := rfl
/-- The level of receive cell 0 of the return is at most 3. -/
theorem lv_rr0 : lv (dc c (rrI 0)) () ≤ 3 := by rw [lv_dc]; decide
/-- The credit of receive cell 0 of the return, by its copy's size. -/
theorem cr_rr0 : cred (tallyAt (dc c (rrI 0)) () N) = (Cr c (rrI 0) : sProp 𝕄) :=
  congrArg (fun n => (cred (tallyAt (dc c (rrI 0)) () n) : sProp 𝕄)) amt_rr0.symm
/-- What lands at a peer through its receive cell 0 of the dispatch. -/
theorem pay_fr0 : dmaPay D (peer 1 c) (frI 0).val = slotIs aM 0 (in3 (k := 0) (by decide)) (peer 1 c) (disp D c (pos c + 1)) := by
  rw [← arr_peer D c 0 (by decide)]; rfl
/-- What lands at a peer through its receive cell 0 of the return. -/
theorem pay_rr0 : dmaPay D (peer 3 c) (rrI 0).val = slotIs rM 0 (in3 (k := 0) (by decide)) (peer 3 c) (ffn D c (arr D c 0)) := by
  rw [← ret_peer D c 0 (by decide)]; rfl
/-- What a device takes from its own send cell 0 of the dispatch. -/
theorem payv_fs0 : dmaPay D c (fsI 0).val = slotAny sM 0 (in3 (k := 0) (by decide)) c := rfl
/-- What a device takes from its own receive cell 0 of the dispatch. -/
theorem payv_fr0 : dmaPay D c (frI 0).val = slotIs aM 0 (in3 (k := 0) (by decide)) c (arr D c 0) := rfl
/-- What a device takes from its own send cell 0 of the return. -/
theorem payv_rs0 : dmaPay D c (rsI 0).val = slotAny oM 0 (in3 (k := 0) (by decide)) c := rfl
/-- What a device takes from its own receive cell 0 of the return. -/
theorem payv_rr0 : dmaPay D c (rrI 0).val = slotIs rM 0 (in3 (k := 0) (by decide)) c (ret D c 0) := rfl
/-- The payment of send cell 1 of the dispatch is the size of its copy. -/
theorem amt_fs1 : dmaAmt (fsI 1).val = N := rfl
/-- The level of send cell 1 of the dispatch is at most 3. -/
theorem lv_fs1 : lv (dc c (fsI 1)) () ≤ 3 := by rw [lv_dc]; decide
/-- The credit of send cell 1 of the dispatch, by its copy's size. -/
theorem cr_fs1 : cred (tallyAt (dc c (fsI 1)) () N) = (Cr c (fsI 1) : sProp 𝕄) :=
  congrArg (fun n => (cred (tallyAt (dc c (fsI 1)) () n) : sProp 𝕄)) amt_fs1.symm
/-- The payment of receive cell 1 of the dispatch is the size of its copy. -/
theorem amt_fr1 : dmaAmt (frI 1).val = N := rfl
/-- The level of receive cell 1 of the dispatch is at most 2. -/
theorem lv_fr1 : lv (dc c (frI 1)) () ≤ 2 := by rw [lv_dc]; decide
/-- The credit of receive cell 1 of the dispatch, by its copy's size. -/
theorem cr_fr1 : cred (tallyAt (dc c (frI 1)) () N) = (Cr c (frI 1) : sProp 𝕄) :=
  congrArg (fun n => (cred (tallyAt (dc c (frI 1)) () n) : sProp 𝕄)) amt_fr1.symm
/-- The payment of send cell 1 of the return is the size of its copy. -/
theorem amt_rs1 : dmaAmt (rsI 1).val = N := rfl
/-- The level of send cell 1 of the return is at most 3. -/
theorem lv_rs1 : lv (dc c (rsI 1)) () ≤ 3 := by rw [lv_dc]; decide
/-- The credit of send cell 1 of the return, by its copy's size. -/
theorem cr_rs1 : cred (tallyAt (dc c (rsI 1)) () N) = (Cr c (rsI 1) : sProp 𝕄) :=
  congrArg (fun n => (cred (tallyAt (dc c (rsI 1)) () n) : sProp 𝕄)) amt_rs1.symm
/-- The payment of receive cell 1 of the return is the size of its copy. -/
theorem amt_rr1 : dmaAmt (rrI 1).val = N := rfl
/-- The level of receive cell 1 of the return is at most 3. -/
theorem lv_rr1 : lv (dc c (rrI 1)) () ≤ 3 := by rw [lv_dc]; decide
/-- The credit of receive cell 1 of the return, by its copy's size. -/
theorem cr_rr1 : cred (tallyAt (dc c (rrI 1)) () N) = (Cr c (rrI 1) : sProp 𝕄) :=
  congrArg (fun n => (cred (tallyAt (dc c (rrI 1)) () n) : sProp 𝕄)) amt_rr1.symm
/-- What lands at a peer through its receive cell 1 of the dispatch. -/
theorem pay_fr1 : dmaPay D (peer 2 c) (frI 1).val = slotIs aM 1 (in3 (k := 1) (by decide)) (peer 2 c) (disp D c (pos c + 2)) := by
  rw [← arr_peer D c 1 (by decide)]; rfl
/-- What lands at a peer through its receive cell 1 of the return. -/
theorem pay_rr1 : dmaPay D (peer 2 c) (rrI 1).val = slotIs rM 1 (in3 (k := 1) (by decide)) (peer 2 c) (ffn D c (arr D c 1)) := by
  rw [← ret_peer D c 1 (by decide)]; rfl
/-- What a device takes from its own send cell 1 of the dispatch. -/
theorem payv_fs1 : dmaPay D c (fsI 1).val = slotAny sM 1 (in3 (k := 1) (by decide)) c := rfl
/-- What a device takes from its own receive cell 1 of the dispatch. -/
theorem payv_fr1 : dmaPay D c (frI 1).val = slotIs aM 1 (in3 (k := 1) (by decide)) c (arr D c 1) := rfl
/-- What a device takes from its own send cell 1 of the return. -/
theorem payv_rs1 : dmaPay D c (rsI 1).val = slotAny oM 1 (in3 (k := 1) (by decide)) c := rfl
/-- What a device takes from its own receive cell 1 of the return. -/
theorem payv_rr1 : dmaPay D c (rrI 1).val = slotIs rM 1 (in3 (k := 1) (by decide)) c (ret D c 1) := rfl
/-- The payment of send cell 2 of the dispatch is the size of its copy. -/
theorem amt_fs2 : dmaAmt (fsI 2).val = N := rfl
/-- The level of send cell 2 of the dispatch is at most 3. -/
theorem lv_fs2 : lv (dc c (fsI 2)) () ≤ 3 := by rw [lv_dc]; decide
/-- The credit of send cell 2 of the dispatch, by its copy's size. -/
theorem cr_fs2 : cred (tallyAt (dc c (fsI 2)) () N) = (Cr c (fsI 2) : sProp 𝕄) :=
  congrArg (fun n => (cred (tallyAt (dc c (fsI 2)) () n) : sProp 𝕄)) amt_fs2.symm
/-- The payment of receive cell 2 of the dispatch is the size of its copy. -/
theorem amt_fr2 : dmaAmt (frI 2).val = N := rfl
/-- The level of receive cell 2 of the dispatch is at most 2. -/
theorem lv_fr2 : lv (dc c (frI 2)) () ≤ 2 := by rw [lv_dc]; decide
/-- The credit of receive cell 2 of the dispatch, by its copy's size. -/
theorem cr_fr2 : cred (tallyAt (dc c (frI 2)) () N) = (Cr c (frI 2) : sProp 𝕄) :=
  congrArg (fun n => (cred (tallyAt (dc c (frI 2)) () n) : sProp 𝕄)) amt_fr2.symm
/-- The payment of send cell 2 of the return is the size of its copy. -/
theorem amt_rs2 : dmaAmt (rsI 2).val = N := rfl
/-- The level of send cell 2 of the return is at most 3. -/
theorem lv_rs2 : lv (dc c (rsI 2)) () ≤ 3 := by rw [lv_dc]; decide
/-- The credit of send cell 2 of the return, by its copy's size. -/
theorem cr_rs2 : cred (tallyAt (dc c (rsI 2)) () N) = (Cr c (rsI 2) : sProp 𝕄) :=
  congrArg (fun n => (cred (tallyAt (dc c (rsI 2)) () n) : sProp 𝕄)) amt_rs2.symm
/-- The payment of receive cell 2 of the return is the size of its copy. -/
theorem amt_rr2 : dmaAmt (rrI 2).val = N := rfl
/-- The level of receive cell 2 of the return is at most 3. -/
theorem lv_rr2 : lv (dc c (rrI 2)) () ≤ 3 := by rw [lv_dc]; decide
/-- The credit of receive cell 2 of the return, by its copy's size. -/
theorem cr_rr2 : cred (tallyAt (dc c (rrI 2)) () N) = (Cr c (rrI 2) : sProp 𝕄) :=
  congrArg (fun n => (cred (tallyAt (dc c (rrI 2)) () n) : sProp 𝕄)) amt_rr2.symm
/-- What lands at a peer through its receive cell 2 of the dispatch. -/
theorem pay_fr2 : dmaPay D (peer 3 c) (frI 2).val = slotIs aM 2 (in3 (k := 2) (by decide)) (peer 3 c) (disp D c (pos c + 3)) := by
  rw [← arr_peer D c 2 (by decide)]; rfl
/-- What lands at a peer through its receive cell 2 of the return. -/
theorem pay_rr2 : dmaPay D (peer 1 c) (rrI 2).val = slotIs rM 2 (in3 (k := 2) (by decide)) (peer 1 c) (ffn D c (arr D c 2)) := by
  rw [← ret_peer D c 2 (by decide)]; rfl
/-- What a device takes from its own send cell 2 of the dispatch. -/
theorem payv_fs2 : dmaPay D c (fsI 2).val = slotAny sM 2 (in3 (k := 2) (by decide)) c := rfl
/-- What a device takes from its own receive cell 2 of the dispatch. -/
theorem payv_fr2 : dmaPay D c (frI 2).val = slotIs aM 2 (in3 (k := 2) (by decide)) c (arr D c 2) := rfl
/-- What a device takes from its own send cell 2 of the return. -/
theorem payv_rs2 : dmaPay D c (rsI 2).val = slotAny oM 2 (in3 (k := 2) (by decide)) c := rfl
/-- What a device takes from its own receive cell 2 of the return. -/
theorem payv_rr2 : dmaPay D c (rrI 2).val = slotIs rM 2 (in3 (k := 2) (by decide)) c (ret D c 2) := rfl
/-- Weight cell 0 hands over the staged first weights and the given ones. -/
theorem payv_w0 : dmaPay D c (wI 0).val = iprop(pt c cc0_scratch4 (D.w1 c) ∗ pt c main_arg2 (D.w1 c)) := rfl
/-- Weight cell 1 hands over the staged second weights and the given ones. -/
theorem payv_w1 : dmaPay D c (wI 1).val = iprop(pt c cc0_scratch5 (D.w2 c) ∗ pt c main_arg3 (D.w2 c)) := rfl

/-- The weight copies are started and two peers signalled. -/
theorem part1_run {Q : (Σ' (d0 : Dev nD) (v2 : BitVec 32) (v5 : BitVec 32) (v8 : BitVec 32) (v13 : Sems sig S_) (v30 : BitVec 32), BitVec 32) → sProp (MT nD τ sig Unit (Elt F) ℕ UU ℕ)} (f4 : (cc0_scratch4 : Ref sig .tc).ty.Contents (Elt F)) (f5 : (cc0_scratch5 : Ref sig .tc).ty.Contents (Elt F)) :
    iprop(invs D K
      ∗ pt c main_arg2 (D.w1 c)
      ∗ pt c cc0_scratch4 f4
      ∗ pt c main_arg3 (D.w2 c)
      ∗ pt c cc0_scratch5 f5
      ∗ Tok c (wI 0)
      ∗ Rch c (wI 0)
      ∗ Tok c (wI 1)
      ∗ Rch c (wI 1)
      ∗ ow c (OB0 c)
      ∗ dutyTok ER (bar (peer 1 c)) 0 0
      ∗ reached ER (bar (peer 1 c)) 0
      ∗ barPay (peer 1 c) 0
      ∗ dutyTok ER (bar (peer 2 c)) 0 1
      ∗ reached ER (bar (peer 2 c)) 0
      ∗ barPay (peer 2 c) 1)
      ⊢ iprop(((Cr c (wI 0)
      ∗ Cr c (wI 1)
      ∗ ow c (OB2 c)) -∗ ∀ v2 v5 v8 v30 v, Q ⟨c, v2, v5, v8, SemArray.scalar (sig.barrier 0 rfl), v30, v⟩)
        -∗ wp frame (wpE (defs₀ (F := F)) 𝒱₀ c none) Set.univ (k0_part1 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10) Q) := by
  rw [k0_part1_eq_skeleton]; unfold k0_part1_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1, wp_deviceId, signal_eq, dev1, dev2]
  unfold ow
  iintro ⟨#HI, Hg1, Hw1, Hg2, Hw2, Ht0, #Hr0, Ht1, #Hr1, ⟨%W, HO⟩, Hb1, #Hrb1, Hp1, Hb2, #Hrb2, Hp2⟩ Hk
  iapply (copy_step D K c g1M w1M (wI 0) (by decide) N1 rfl rfl (D.w1 c) f4 (pay_w0 D c f4)) $$ [Hg1 Hw1 Ht0]
  · isplitr; · iexact HI
    isplitl [Hg1]; · iexact Hg1
    isplitl [Hw1]; · iexact Hw1
    isplitl [Ht0]; · iexact Ht0
    iexact Hr0
  iintro Hc0
  iapply (copy_step D K c g2M w2M (wI 1) (by decide) N2 rfl rfl (D.w2 c) f5 (pay_w1 D c f5)) $$ [Hg2 Hw2 Ht1]
  · isplitr; · iexact HI
    isplitl [Hg2]; · iexact Hg2
    isplitl [Hw2]; · iexact Hw2
    isplitl [Ht1]; · iexact Ht1
    iexact Hr1
  iintro Hc1
  iapply (sig_step D K c (peer 1 c) 0 (OB0 c) (OB1 c) rfl) $$ [HO Hb1 Hp1]
  · isplitr; · iexact HI
    isplitl [HO]; · iexact HO
    isplitl [Hb1]; · iexact Hb1
    isplitl [Hp1]; · iexact Hp1
    iexact Hrb1
  iintro HO
  iapply (sig_step D K c (peer 2 c) 1 (OB1 c) (OB2 c) rfl) $$ [HO Hb2 Hp2]
  · isplitr; · iexact HI
    isplitl [HO]; · iexact HO
    isplitl [Hb2]; · iexact Hb2
    isplitl [Hp2]; · iexact Hp2
    iexact Hrb2
  iintro HO
  rw [wp_pure]; imodintro
  iapply Hk $$ [Hc0 Hc1 HO]
  isplitl [Hc0]; · iexact Hc0
  isplitl [Hc1]; · iexact Hc1
  iexists W; iexact HO

/-- The third peer is signalled, the three units awaited, the first block of rows dispatched into its slot. -/
theorem part2_run {Q : FVec F S512x512 .bf16 → sProp (MT nD τ sig Unit (Elt F) ℕ UU ℕ)} (v2 v5 v8 v30 v : BitVec 32) :
    iprop(invs D K
      ∗ ow c (OB2 c)
      ∗ dutyTok ER (bar (peer 3 c)) 0 2
      ∗ reached ER (bar (peer 3 c)) 0
      ∗ barPay (peer 3 c) 2
      ∗ cred (tallyAt (bar c) () 3)
      ∗ levAts L lv
      ∗ atPos ER (bar c) 0 ∅ 0
      ∗ pt c cc0_stg0_0 (D.x c)
      ∗ pt c cc0_stg1_0 (D.p c)
      ∗ slotAny sM 0 (in3 (k := 0) (by decide)) c)
      ⊢ iprop(((ow c (OF0 c)
      ∗ atPos ER (bar c) 1 ∅ 0
      ∗ barPay c 0
      ∗ barPay c 1
      ∗ barPay c 2
      ∗ pt c cc0_stg0_0 (D.x c)
      ∗ pt c cc0_stg1_0 (D.p c)
      ∗ slotIs sM 0 (in3 (k := 0) (by decide)) c (disp D c (pos c + 1))) -∗ Q (k0_pay1 (xs D c)))
        -∗ wp frame (wpE (defs₀ (F := F)) 𝒱₀ c none) Set.univ (k0_part2 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v2 v5 v8 (SemArray.scalar (sig.barrier 0 rfl)) v30 v) Q) := by
  rw [k0_part2_eq_skeleton]; unfold k0_part2_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1, signal_eq, wait_eq, dev3]
  unfold ow
  iintro ⟨#HI, ⟨%W, HO⟩, Hb, #Hrb, Hp, Hc, #Hlev, Hat, Hx, Hpp, Hs⟩ Hk
  iapply (sig_step D K c (peer 3 c) 2 (OB2 c) (OF0 c) rfl) $$ [HO Hb Hp]
  · isplitr; · iexact HI
    isplitl [HO]; · iexact HO
    isplitl [Hb]; · iexact Hb
    isplitl [Hp]; · iexact Hp
    iexact Hrb
  iintro HO
  iapply (wait_bar D K c (above_OF0 c (by decide))) $$ [Hc HO Hat]
  · isplitr; · iexact HI
    isplitl [Hc]; · iexact Hc
    isplitl [HO]; · iexact HO
    isplitr; · iexact Hlev
    iexact Hat
  iintro ⟨HO, Hat, HP0, HP1, HP2⟩
  iapply (load_x D c) $$ Hx
  iintro Hx
  iapply (load_slab D c (pos c + 1) _ (k0_off1_eq c 0)) $$ Hpp
  iintro Hpp
  iapply (load_any c sM 0 (in3 (k := 0) (by decide))) $$ Hs
  iintro %v Hs
  iapply (store_slot c sM 0 (in3 (k := 0) (by decide)) (disp D c (pos c + 1))) $$ Hs
  iintro Hs
  rw [wp_pure]; imodintro
  iapply Hk
  isplitl [HO]; · iexists _; iexact HO
  isplitl [Hat]; · iexact Hat
  isplitl [HP0]; · iexact HP0
  isplitl [HP1]; · iexact HP1
  isplitl [HP2]; · iexact HP2
  isplitl [Hx]; · iexact Hx
  isplitl [Hpp]; · iexact Hpp
  iexact Hs

end Parts

end Cert.KernelIdeal.Talk

end
-- ==== Proof.Body2.lean ====
/-
  The kernel's body, the parts that send the rows, apply the experts, return and combine the results.
-/
module

public import proofs.«01_k».proof.Proof.Body1

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Data F)

section Parts
variable (K : GSem nD τ sig → ℕ) (c : Dev nD)

/-- The first two blocks of rows are sent. -/
theorem part3_run {Q : BitVec 32 → sProp (MT nD τ sig Unit (Elt F) ℕ UU ℕ)} (v2 v5 v8 : BitVec 32) :
    iprop(invs D K
      ∗ ow c (OF0 c)
      ∗ pt c cc0_stg1_0 (D.p c)
      ∗ slotIs sM 0 (in3 (k := 0) (by decide)) c (disp D c (pos c + 1))
      ∗ slotAny sM 1 (in3 (k := 1) (by decide)) c
      ∗ slotAny aM 0 (in3 (k := 0) (by decide)) (peer 1 c)
      ∗ Rch (peer 1 c) (frI 0)
      ∗ Tok c (fsI 0)
      ∗ Rch c (fsI 0)
      ∗ Tok (peer 1 c) (frI 0)
      ∗ slotAny aM 1 (in3 (k := 1) (by decide)) (peer 2 c)
      ∗ Rch (peer 2 c) (frI 1)
      ∗ Tok c (fsI 1)
      ∗ Rch c (fsI 1)
      ∗ Tok (peer 2 c) (frI 1))
      ⊢ iprop(((ow c (OF2 c)
      ∗ pt c cc0_stg1_0 (D.p c)
      ∗ Cr c (fsI 0)
      ∗ Cr c (fsI 1)) -∗ ∀ v, Q v)
        -∗ wp frame (wpE (defs₀ (F := F)) 𝒱₀ c none) Set.univ (k0_part3 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v2 v5 v8 (k0_pay1 (xs D c))) Q) := by
  rw [k0_part3_eq_skeleton]; unfold k0_part3_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1, dev4, dev5]
  unfold ow
  iintro ⟨#HI, ⟨%W, HO⟩, Hpp, Hs0, Hs1, Hd0, #Hrj0, Hti0, #Hri0, Htj0, Hd1, #Hrj1, Hti1, #Hri1, Htj1⟩ Hk
  iapply (send_named D K c (peer 1 c) _ (dev4 c) sM aM 0 (in3 (k := 0) (by decide)) (disp D c (pos c + 1)) (fsI 0) (frI 0) _ _ sem_fs0 sem_fr0 (by decide) (by decide) amt_fs0 amt_fr0 (N_a 0 (in3 (k := 0) (by decide))) (payv_fs0 D c) (pay_fr0 D c) (OF0 c) (OF1 c) rfl) $$ [Hs0 Hd0 HO Hti0 Htj0]
  · isplitr; · iexact HI
    isplitl [Hs0]; · iexact Hs0
    isplitl [Hd0]; · iexact Hd0
    isplitl [HO]; · iexact HO
    isplitl [Hti0]; · iexact Hti0
    isplitr; · iexact Hri0
    isplitl [Htj0]; · iexact Htj0
    iexact Hrj0
  iintro ⟨Hcs0, HO⟩
  ihave Hcs0 := (Entails.of_eq (cr_fs0 (F := F) c)) $$ Hcs0
  iapply (load_slab D c (pos c + 2) _ (k0_off1_eq c 1)) $$ Hpp
  iintro Hpp
  iapply (load_any c sM 1 (in3 (k := 1) (by decide))) $$ Hs1
  iintro %v Hs1
  iapply (store_slot c sM 1 (in3 (k := 1) (by decide)) (disp D c (pos c + 2))) $$ Hs1
  iintro Hs1
  iapply (send_named D K c (peer 2 c) _ (dev5 c) sM aM 1 (in3 (k := 1) (by decide)) (disp D c (pos c + 2)) (fsI 1) (frI 1) _ _ sem_fs1 sem_fr1 (by decide) (by decide) amt_fs1 amt_fr1 (N_a 1 (in3 (k := 1) (by decide))) (payv_fs1 D c) (pay_fr1 D c) (OF1 c) (OF2 c) rfl) $$ [Hs1 Hd1 HO Hti1 Htj1]
  · isplitr; · iexact HI
    isplitl [Hs1]; · iexact Hs1
    isplitl [Hd1]; · iexact Hd1
    isplitl [HO]; · iexact HO
    isplitl [Hti1]; · iexact Hti1
    isplitr; · iexact Hri1
    isplitl [Htj1]; · iexact Htj1
    iexact Hrj1
  iintro ⟨Hcs1, HO⟩
  ihave Hcs1 := (Entails.of_eq (cr_fs1 (F := F) c)) $$ Hcs1
  rw [wp_pure]; imodintro
  iapply Hk $$ [HO Hpp Hcs0 Hcs1]
  isplitl [HO]; · iexists _; iexact HO
  isplitl [Hpp]; · iexact Hpp
  isplitl [Hcs0]; · iexact Hcs0
  iexact Hcs1

/-- The third block is sent; the weights arrive. -/
theorem part4_run {Q : (Σ' (v119 : FVec F S512x1024 .bf16), FVec F S512x1024 .bf16) → sProp (MT nD τ sig Unit (Elt F) ℕ UU ℕ)} (v2 v5 v90 : BitVec 32) :
    iprop(invs D K
      ∗ ow c (OF2 c)
      ∗ pt c cc0_stg1_0 (D.p c)
      ∗ slotAny sM 2 (in3 (k := 2) (by decide)) c
      ∗ slotAny aM 2 (in3 (k := 2) (by decide)) (peer 3 c)
      ∗ Rch (peer 3 c) (frI 2)
      ∗ Tok c (fsI 2)
      ∗ Rch c (fsI 2)
      ∗ Tok (peer 3 c) (frI 2)
      ∗ levAts L lv
      ∗ Cr c (wI 0)
      ∗ At c (wI 0) 0
      ∗ Cr c (wI 1)
      ∗ At c (wI 1) 0)
      ⊢ iprop(((ow c (OR0 c)
      ∗ pt c cc0_stg1_0 (D.p c)
      ∗ Cr c (fsI 2)
      ∗ At c (wI 0) 1
      ∗ At c (wI 1) 1
      ∗ pt c cc0_scratch4 (D.w1 c)
      ∗ pt c main_arg2 (D.w1 c)
      ∗ pt c cc0_scratch5 (D.w2 c)
      ∗ pt c main_arg3 (D.w2 c)) -∗ Q ⟨k0_pay5 (wAv D c), k0_pay6 (wBv D c)⟩)
        -∗ wp frame (wpE (defs₀ (F := F)) 𝒱₀ c none) Set.univ (k0_part4 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v2 v5 (k0_pay1 (xs D c)) v90) Q) := by
  rw [k0_part4_eq_skeleton]; unfold k0_part4_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1, dev6]
  unfold ow
  iintro ⟨#HI, ⟨%W, HO⟩, Hpp, Hs2, Hd2, #Hrj2, Hti2, #Hri2, Htj2, #Hlev, Hc0, Hat0, Hc1, Hat1⟩ Hk
  iapply (load_slab D c (pos c + 3) _ (k0_off1_eq c 2)) $$ Hpp
  iintro Hpp
  iapply (load_any c sM 2 (in3 (k := 2) (by decide))) $$ Hs2
  iintro %v Hs2
  iapply (store_slot c sM 2 (in3 (k := 2) (by decide)) (disp D c (pos c + 3))) $$ Hs2
  iintro Hs2
  iapply (send_named D K c (peer 3 c) _ (dev6 c) sM aM 2 (in3 (k := 2) (by decide)) (disp D c (pos c + 3)) (fsI 2) (frI 2) _ _ sem_fs2 sem_fr2 (by decide) (by decide) amt_fs2 amt_fr2 (N_a 2 (in3 (k := 2) (by decide))) (payv_fs2 D c) (pay_fr2 D c) (OF2 c) (OR0 c) rfl) $$ [Hs2 Hd2 HO Hti2 Htj2]
  · isplitr; · iexact HI
    isplitl [Hs2]; · iexact Hs2
    isplitl [Hd2]; · iexact Hd2
    isplitl [HO]; · iexact HO
    isplitl [Hti2]; · iexact Hti2
    isplitr; · iexact Hri2
    isplitl [Htj2]; · iexact Htj2
    iexact Hrj2
  iintro ⟨Hcs2, HO⟩
  ihave Hcs2 := (Entails.of_eq (cr_fs2 (F := F) c)) $$ Hcs2
  iapply (wait_dma D K c (wI 0) (by decide) (n := 0) (above_OR0 c (by decide)) (lv_ws0 c) (dst := w1M) (amt_ws0 : _ = dmaAmt _)) $$ [Hc0 HO Hat0]
  · isplitr; · iexact HI
    isplitl [Hc0]; · iexact Hc0
    isplitl [HO]; · iexact HO
    isplitr; · iexact Hlev
    iexact Hat0
  iintro ⟨HO, Hat0, Hpay⟩
  ihave Hw := (Entails.of_eq (payv_w0 D c)) $$ Hpay
  icases Hw with ⟨Hw1, Hg1⟩
  iapply (wait_dma D K c (wI 1) (by decide) (n := 0) (above_OR0 c (by decide)) (lv_ws1 c) (dst := w2M) (amt_ws1 : _ = dmaAmt _)) $$ [Hc1 HO Hat1]
  · isplitr; · iexact HI
    isplitl [Hc1]; · iexact Hc1
    isplitl [HO]; · iexact HO
    isplitr; · iexact Hlev
    iexact Hat1
  iintro ⟨HO, Hat1, Hpay⟩
  ihave Hw := (Entails.of_eq (payv_w1 D c)) $$ Hpay
  icases Hw with ⟨Hw2, Hg2⟩
  iapply (load_wAv D c) $$ Hw1
  iintro Hw1
  iapply (load_wBv D c) $$ Hw1
  iintro Hw1
  rw [wp_pure]; imodintro
  iapply Hk
  isplitl [HO]; · iexists _; iexact HO
  isplitl [Hpp]; · iexact Hpp
  isplitl [Hcs2]; · iexact Hcs2
  isplitl [Hat0]; · iexact Hat0
  isplitl [Hat1]; · iexact Hat1
  isplitl [Hw1]; · iexact Hw1
  isplitl [Hg1]; · iexact Hg1
  isplitl [Hw2]; · iexact Hw2
  iexact Hg2

/-- The device's own experts on its own rows. -/
theorem part5_run {Q : (Σ' (v125 : FVec F S1024x512 .bf16) (v128 : FVec F S1024x512 .bf16), FVec F S160x512 .bf16) → sProp (MT nD τ sig Unit (Elt F) ℕ UU ℕ)} (v2 v5 v8 : BitVec 32) :
    iprop(invs D K
      ∗ pt c cc0_stg1_0 (D.p c)
      ∗ pt c cc0_scratch5 (D.w2 c))
      ⊢ iprop(((pt c cc0_stg1_0 (D.p c)
      ∗ pt c cc0_scratch5 (D.w2 c)) -∗ Q ⟨k0_pay7 (wCv D c), k0_pay8 (wDv D c), own D c⟩)
        -∗ wp frame (wpE (defs₀ (F := F)) 𝒱₀ c none) Set.univ (k0_part5 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v2 v5 v8 (k0_pay1 (xs D c)) (wA D c) (wB D c)) Q) := by
  rw [k0_part5_eq_skeleton]; unfold k0_part5_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1]
  iintro ⟨#HI, Hpp, Hw2⟩ Hk
  iapply (load_wCv D c) $$ Hw2
  iintro Hw2
  iapply (load_wDv D c) $$ Hw2
  iintro Hw2
  iapply (load_slab D c (pos c) _ (off2_eq c)) $$ Hpp
  iintro Hpp
  rw [show k0_pay9 (k0_pay1 (xs D c)) (wA D c) (wB D c) (wCv D c) (wDv D c) (ps D c (pos c)) = own D c from rfl]
  rw [wp_pure]; imodintro
  iapply Hk
  isplitl [Hpp]; · iexact Hpp
  iexact Hw2

/-- The first peer's rows arrive and go through the experts. -/
theorem part6_run {Q : PUnit → sProp (MT nD τ sig Unit (Elt F) ℕ UU ℕ)} (v2 v5 v8 : BitVec 32) :
    iprop(invs D K
      ∗ ow c (OR0 c)
      ∗ levAts L lv
      ∗ Cr c (frI 0)
      ∗ At c (frI 0) 0
      ∗ slotAny oM 0 (in3 (k := 0) (by decide)) c)
      ⊢ iprop(((ow c (OR0 c)
      ∗ At c (frI 0) 1
      ∗ slotAny aM 0 (in3 (k := 0) (by decide)) c
      ∗ slotIs oM 0 (in3 (k := 0) (by decide)) c (ffn D c (arr D c 0))) -∗ Q ⟨⟩)
        -∗ wp frame (wpE (defs₀ (F := F)) 𝒱₀ c none) Set.univ (k0_part6 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 v2 v5 v8 (wA D c) (wB D c) (k0_pay7 (wCv D c)) (k0_pay8 (wDv D c))) Q) := by
  rw [k0_part6_eq_skeleton]; unfold k0_part6_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1]
  unfold ow
  iintro ⟨#HI, ⟨%W, HO⟩, #Hlev, Hc, Hat, Ho0⟩ Hk
  iapply (wait_dma D K c (frI 0) (by decide) (n := 2) (above_OR0 c (by decide)) (lv_fr0 c) (dst := slotM aM 0 (in3 (k := 0) (by decide))) ((N_a 0 (in3 (k := 0) (by decide))).trans amt_fr0.symm)) $$ [Hc HO Hat]
  · isplitr; · iexact HI
    isplitl [Hc]; · iexact Hc
    isplitl [HO]; · iexact HO
    isplitr; · iexact Hlev
    iexact Hat
  iintro ⟨HO, Hat, Hpay⟩
  ihave Ha := (Entails.of_eq (payv_fr0 D c)) $$ Hpay
  iapply (load_is c aM 0 (in3 (k := 0) (by decide)) (arr D c 0)) $$ Ha
  iintro Ha
  iapply (load_any c oM 0 (in3 (k := 0) (by decide))) $$ Ho0
  iintro %v Ho0
  iapply (store_slot c oM 0 (in3 (k := 0) (by decide)) (ffn D c (arr D c 0))) $$ Ho0
  iintro Ho0
  rw [wp_pure]; imodintro
  iapply Hk
  isplitl [HO]; · iexists _; iexact HO
  isplitl [Hat]; · iexact Hat
  isplitl [Ha]; · iapply slotIs_any; iexact Ha
  iexact Ho0

/-- The first result is returned, the second peer's rows arrive. -/
theorem part7_run {Q : FVec F S160x512 .bf16 → sProp (MT nD τ sig Unit (Elt F) ℕ UU ℕ)} (v2 v5 v8 : BitVec 32) :
    iprop(invs D K
      ∗ ow c (OR0 c)
      ∗ levAts L lv
      ∗ slotIs oM 0 (in3 (k := 0) (by decide)) c (ffn D c (arr D c 0))
      ∗ slotAny rM 0 (in3 (k := 0) (by decide)) (peer 3 c)
      ∗ Rch (peer 3 c) (rrI 0)
      ∗ Tok c (rsI 0)
      ∗ Rch c (rsI 0)
      ∗ Tok (peer 3 c) (rrI 0)
      ∗ Cr c (frI 1)
      ∗ At c (frI 1) 0)
      ⊢ iprop(((ow c (OR1 c)
      ∗ Cr c (rsI 0)
      ∗ At c (frI 1) 1
      ∗ slotAny aM 1 (in3 (k := 1) (by decide)) c) -∗ Q (k0_pay11 (wA D c) (wB D c) (k0_pay7 (wCv D c)) (k0_pay8 (wDv D c)) (arr D c 1)))
        -∗ wp frame (wpE (defs₀ (F := F)) 𝒱₀ c none) Set.univ (k0_part7 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v2 v5 v8 (wA D c) (wB D c) (k0_pay7 (wCv D c)) (k0_pay8 (wDv D c))) Q) := by
  rw [k0_part7_eq_skeleton]; unfold k0_part7_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1, dev7]
  unfold ow
  iintro ⟨#HI, ⟨%W, HO⟩, #Hlev, Ho0, Hd0, #Hrj0, Hti0, #Hri0, Htj0, Hc, Hat⟩ Hk
  iapply (send_named D K c (peer 3 c) _ (dev7 c) oM rM 0 (in3 (k := 0) (by decide)) (ffn D c (arr D c 0)) (rsI 0) (rrI 0) _ _ sem_rs0 sem_rr0 (by decide) (by decide) amt_rs0 amt_rr0 (N_r 0 (in3 (k := 0) (by decide))) (payv_rs0 D c) (pay_rr0 D c) (OR0 c) (OR1 c) rfl) $$ [Ho0 Hd0 HO Hti0 Htj0]
  · isplitr; · iexact HI
    isplitl [Ho0]; · iexact Ho0
    isplitl [Hd0]; · iexact Hd0
    isplitl [HO]; · iexact HO
    isplitl [Hti0]; · iexact Hti0
    isplitr; · iexact Hri0
    isplitl [Htj0]; · iexact Htj0
    iexact Hrj0
  iintro ⟨Hcs0, HO⟩
  ihave Hcs0 := (Entails.of_eq (cr_rs0 (F := F) c)) $$ Hcs0
  iapply (wait_dma D K c (frI 1) (by decide) (n := 2) (above_OR1 c (by decide)) (lv_fr1 c) (dst := slotM aM 1 (in3 (k := 1) (by decide))) ((N_a 1 (in3 (k := 1) (by decide))).trans amt_fr1.symm)) $$ [Hc HO Hat]
  · isplitr; · iexact HI
    isplitl [Hc]; · iexact Hc
    isplitl [HO]; · iexact HO
    isplitr; · iexact Hlev
    iexact Hat
  iintro ⟨HO, Hat, Hpay⟩
  ihave Ha := (Entails.of_eq (payv_fr1 D c)) $$ Hpay
  iapply (load_is c aM 1 (in3 (k := 1) (by decide)) (arr D c 1)) $$ Ha
  iintro Ha
  rw [wp_pure]; imodintro
  iapply Hk
  isplitl [HO]; · iexists _; iexact HO
  isplitl [Hcs0]; · iexact Hcs0
  isplitl [Hat]; · iexact Hat
  iapply slotIs_any; iexact Ha

/-- The second result is returned. -/
theorem part8_run {Q : PUnit → sProp (MT nD τ sig Unit (Elt F) ℕ UU ℕ)} (v2 v5 v8 : BitVec 32) :
    iprop(invs D K
      ∗ ow c (OR1 c)
      ∗ slotAny oM 1 (in3 (k := 1) (by decide)) c
      ∗ slotAny rM 1 (in3 (k := 1) (by decide)) (peer 2 c)
      ∗ Rch (peer 2 c) (rrI 1)
      ∗ Tok c (rsI 1)
      ∗ Rch c (rsI 1)
      ∗ Tok (peer 2 c) (rrI 1))
      ⊢ iprop(((ow c (OR2 c)
      ∗ Cr c (rsI 1)) -∗ Q ⟨⟩)
        -∗ wp frame (wpE (defs₀ (F := F)) 𝒱₀ c none) Set.univ (k0_part8 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v2 v5 v8 (k0_pay11 (wA D c) (wB D c) (k0_pay7 (wCv D c)) (k0_pay8 (wDv D c)) (arr D c 1))) Q) := by
  rw [k0_part8_eq_skeleton]; unfold k0_part8_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1, dev8]
  unfold ow
  iintro ⟨#HI, ⟨%W, HO⟩, Ho1, Hd1, #Hrj1, Hti1, #Hri1, Htj1⟩ Hk
  iapply (load_any c oM 1 (in3 (k := 1) (by decide))) $$ Ho1
  iintro %v Ho1
  iapply (store_slot c oM 1 (in3 (k := 1) (by decide)) (ffn D c (arr D c 1))) $$ Ho1
  iintro Ho1
  iapply (send_named D K c (peer 2 c) _ (dev8 c) oM rM 1 (in3 (k := 1) (by decide)) (ffn D c (arr D c 1)) (rsI 1) (rrI 1) _ _ sem_rs1 sem_rr1 (by decide) (by decide) amt_rs1 amt_rr1 (N_r 1 (in3 (k := 1) (by decide))) (payv_rs1 D c) (pay_rr1 D c) (OR1 c) (OR2 c) rfl) $$ [Ho1 Hd1 HO Hti1 Htj1]
  · isplitr; · iexact HI
    isplitl [Ho1]; · iexact Ho1
    isplitl [Hd1]; · iexact Hd1
    isplitl [HO]; · iexact HO
    isplitl [Hti1]; · iexact Hti1
    isplitr; · iexact Hri1
    isplitl [Htj1]; · iexact Htj1
    iexact Hrj1
  iintro ⟨Hcs1, HO⟩
  ihave Hcs1 := (Entails.of_eq (cr_rs1 (F := F) c)) $$ Hcs1
  rw [wp_pure]; imodintro
  iapply Hk
  isplitl [HO]; · iexists _; iexact HO
  iexact Hcs1

/-- The third peer's rows arrive and go through the experts. -/
theorem part9_run {Q : PUnit → sProp (MT nD τ sig Unit (Elt F) ℕ UU ℕ)} (v2 v5 v8 : BitVec 32) :
    iprop(invs D K
      ∗ ow c (OR2 c)
      ∗ levAts L lv
      ∗ Cr c (frI 2)
      ∗ At c (frI 2) 0
      ∗ slotAny oM 2 (in3 (k := 2) (by decide)) c)
      ⊢ iprop(((ow c (OR2 c)
      ∗ At c (frI 2) 1
      ∗ slotAny aM 2 (in3 (k := 2) (by decide)) c
      ∗ slotIs oM 2 (in3 (k := 2) (by decide)) c (ffn D c (arr D c 2))) -∗ Q ⟨⟩)
        -∗ wp frame (wpE (defs₀ (F := F)) 𝒱₀ c none) Set.univ (k0_part9 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 v2 v5 v8 (wA D c) (wB D c) (k0_pay7 (wCv D c)) (k0_pay8 (wDv D c))) Q) := by
  rw [k0_part9_eq_skeleton]; unfold k0_part9_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1]
  unfold ow
  iintro ⟨#HI, ⟨%W, HO⟩, #Hlev, Hc, Hat, Ho0⟩ Hk
  iapply (wait_dma D K c (frI 2) (by decide) (n := 2) (above_OR2 c (by decide)) (lv_fr2 c) (dst := slotM aM 2 (in3 (k := 2) (by decide))) ((N_a 2 (in3 (k := 2) (by decide))).trans amt_fr2.symm)) $$ [Hc HO Hat]
  · isplitr; · iexact HI
    isplitl [Hc]; · iexact Hc
    isplitl [HO]; · iexact HO
    isplitr; · iexact Hlev
    iexact Hat
  iintro ⟨HO, Hat, Hpay⟩
  ihave Ha := (Entails.of_eq (payv_fr2 D c)) $$ Hpay
  iapply (load_is c aM 2 (in3 (k := 2) (by decide)) (arr D c 2)) $$ Ha
  iintro Ha
  iapply (load_any c oM 2 (in3 (k := 2) (by decide))) $$ Ho0
  iintro %v Ho0
  iapply (store_slot c oM 2 (in3 (k := 2) (by decide)) (ffn D c (arr D c 2))) $$ Ho0
  iintro Ho0
  rw [wp_pure]; imodintro
  iapply Hk
  isplitl [HO]; · iexists _; iexact HO
  isplitl [Hat]; · iexact Hat
  isplitl [Ha]; · iapply slotIs_any; iexact Ha
  iexact Ho0

/-- The third result is returned; the first comes back and is combined with the device's own. -/
theorem part10_run {Q : FVec F S512x512 .f32 → sProp (MT nD τ sig Unit (Elt F) ℕ UU ℕ)} (v2 v5 v8 : BitVec 32) :
    iprop(invs D K
      ∗ ow c (OR2 c)
      ∗ levAts L lv
      ∗ pt c cc0_stg1_0 (D.p c)
      ∗ slotIs oM 2 (in3 (k := 2) (by decide)) c (ffn D c (arr D c 2))
      ∗ slotAny rM 2 (in3 (k := 2) (by decide)) (peer 1 c)
      ∗ Rch (peer 1 c) (rrI 2)
      ∗ Tok c (rsI 2)
      ∗ Rch c (rsI 2)
      ∗ Tok (peer 1 c) (rrI 2)
      ∗ Cr c (rrI 0)
      ∗ At c (rrI 0) 0)
      ⊢ iprop(((ow c 0
      ∗ pt c cc0_stg1_0 (D.p c)
      ∗ Cr c (rsI 2)
      ∗ At c (rrI 0) 1
      ∗ slotAny rM 0 (in3 (k := 0) (by decide)) c) -∗ Q (k0_pay14 (own D c) (ps D c (pos c)) (ps D c (pos c + 1)) (ret D c 0)))
        -∗ wp frame (wpE (defs₀ (F := F)) 𝒱₀ c none) Set.univ (k0_part10 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v2 v5 v8 (own D c)) Q) := by
  rw [k0_part10_eq_skeleton]; unfold k0_part10_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1, dev9]
  unfold ow
  iintro ⟨#HI, ⟨%W, HO⟩, #Hlev, Hpp, Ho2, Hd2, #Hrj2, Hti2, #Hri2, Htj2, Hc, Hat⟩ Hk
  iapply (send_named D K c (peer 1 c) _ (dev9 c) oM rM 2 (in3 (k := 2) (by decide)) (ffn D c (arr D c 2)) (rsI 2) (rrI 2) _ _ sem_rs2 sem_rr2 (by decide) (by decide) amt_rs2 amt_rr2 (N_r 2 (in3 (k := 2) (by decide))) (payv_rs2 D c) (pay_rr2 D c) (OR2 c) (0) (zero_add _).symm) $$ [Ho2 Hd2 HO Hti2 Htj2]
  · isplitr; · iexact HI
    isplitl [Ho2]; · iexact Ho2
    isplitl [Hd2]; · iexact Hd2
    isplitl [HO]; · iexact HO
    isplitl [Hti2]; · iexact Hti2
    isplitr; · iexact Hri2
    isplitl [Htj2]; · iexact Htj2
    iexact Hrj2
  iintro ⟨Hcs2, HO⟩
  ihave Hcs2 := (Entails.of_eq (cr_rs2 (F := F) c)) $$ Hcs2
  iapply (load_slab D c (pos c) _ (off2_eq c)) $$ Hpp
  iintro Hpp
  iapply (wait_dma D K c (rrI 0) (by decide) (n := 3) (Above.zero _) (lv_rr0 c) (dst := slotM rM 0 (in3 (k := 0) (by decide))) ((N_r 0 (in3 (k := 0) (by decide))).trans amt_rr0.symm)) $$ [Hc HO Hat]
  · isplitr; · iexact HI
    isplitl [Hc]; · iexact Hc
    isplitl [HO]; · iexact HO
    isplitr; · iexact Hlev
    iexact Hat
  iintro ⟨HO, Hat, Hpay⟩
  ihave Ha := (Entails.of_eq (payv_rr0 D c)) $$ Hpay
  iapply (load_slab D c (pos c + 1) _ (k0_off1_eq c 0)) $$ Hpp
  iintro Hpp
  iapply (load_is c rM 0 (in3 (k := 0) (by decide)) (ret D c 0)) $$ Ha
  iintro Ha
  rw [wp_pure]; imodintro
  iapply Hk
  isplitl [HO]; · iexists _; iexact HO
  isplitl [Hpp]; · iexact Hpp
  isplitl [Hcs2]; · iexact Hcs2
  isplitl [Hat]; · iexact Hat
  iapply slotIs_any; iexact Ha

/-- The second result comes back. -/
theorem part11_run {Q : FVec F S512x512 .f32 → sProp (MT nD τ sig Unit (Elt F) ℕ UU ℕ)} (v2 v5 v8 : BitVec 32) :
    iprop(invs D K
      ∗ ow c 0
      ∗ levAts L lv
      ∗ pt c cc0_stg1_0 (D.p c)
      ∗ Cr c (rrI 1)
      ∗ At c (rrI 1) 0)
      ⊢ iprop(((ow c 0
      ∗ pt c cc0_stg1_0 (D.p c)
      ∗ At c (rrI 1) 1
      ∗ slotAny rM 1 (in3 (k := 1) (by decide)) c) -∗ Q (k0_pay15 (k0_pay14 (own D c) (ps D c (pos c)) (ps D c (pos c + 1)) (ret D c 0)) (ps D c (pos c + 2)) (ret D c 1)))
        -∗ wp frame (wpE (defs₀ (F := F)) 𝒱₀ c none) Set.univ (k0_part11 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v2 v5 v8 (k0_pay14 (own D c) (ps D c (pos c)) (ps D c (pos c + 1)) (ret D c 0))) Q) := by
  rw [k0_part11_eq_skeleton]; unfold k0_part11_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1]
  unfold ow
  iintro ⟨#HI, ⟨%W, HO⟩, #Hlev, Hpp, Hc, Hat⟩ Hk
  iapply (wait_dma D K c (rrI 1) (by decide) (n := 3) (Above.zero _) (lv_rr1 c) (dst := slotM rM 1 (in3 (k := 1) (by decide))) ((N_r 1 (in3 (k := 1) (by decide))).trans amt_rr1.symm)) $$ [Hc HO Hat]
  · isplitr; · iexact HI
    isplitl [Hc]; · iexact Hc
    isplitl [HO]; · iexact HO
    isplitr; · iexact Hlev
    iexact Hat
  iintro ⟨HO, Hat, Hpay⟩
  ihave Ha := (Entails.of_eq (payv_rr1 D c)) $$ Hpay
  iapply (load_slab D c (pos c + 2) _ (k0_off1_eq c 1)) $$ Hpp
  iintro Hpp
  iapply (load_is c rM 1 (in3 (k := 1) (by decide)) (ret D c 1)) $$ Ha
  iintro Ha
  rw [wp_pure]; imodintro
  iapply Hk
  isplitl [HO]; · iexists _; iexact HO
  isplitl [Hpp]; · iexact Hpp
  isplitl [Hat]; · iexact Hat
  iapply slotIs_any; iexact Ha

/-- The third result comes back, the result block is stored, the first two sends are awaited. -/
theorem part12_run {Q : PUnit → sProp (MT nD τ sig Unit (Elt F) ℕ UU ℕ)} (f : (cc0_stg2_0 : Ref sig .tc).ty.Contents (Elt F)) (v8 : BitVec 32) :
    iprop(invs D K
      ∗ ow c 0
      ∗ levAts L lv
      ∗ pt c cc0_stg1_0 (D.p c)
      ∗ Cr c (rrI 2)
      ∗ At c (rrI 2) 0
      ∗ pt c cc0_stg2_0 f
      ∗ Cr c (fsI 0)
      ∗ At c (fsI 0) 0
      ∗ Cr c (rsI 0)
      ∗ At c (rsI 0) 0)
      ⊢ iprop(((ow c 0
      ∗ pt c cc0_stg1_0 (D.p c)
      ∗ At c (rrI 2) 1
      ∗ slotAny rM 2 (in3 (k := 2) (by decide)) c
      ∗ pt c cc0_stg2_0 (out D c)
      ∗ At c (fsI 0) 1
      ∗ slotAny sM 0 (in3 (k := 0) (by decide)) c
      ∗ At c (rsI 0) 1
      ∗ slotAny oM 0 (in3 (k := 0) (by decide)) c) -∗ Q ⟨⟩)
        -∗ wp frame (wpE (defs₀ (F := F)) 𝒱₀ c none) Set.univ (k0_part12 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10 c v8 (k0_pay15 (k0_pay14 (own D c) (ps D c (pos c)) (ps D c (pos c + 1)) (ret D c 0)) (ps D c (pos c + 2)) (ret D c 1))) Q) := by
  rw [k0_part12_eq_skeleton]; unfold k0_part12_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1]
  unfold ow
  iintro ⟨#HI, ⟨%W, HO⟩, #Hlev, Hpp, Hc, Hat, Hy, Hc1, Hat1, Hc2, Hat2⟩ Hk
  iapply (wait_dma D K c (rrI 2) (by decide) (n := 3) (Above.zero _) (lv_rr2 c) (dst := slotM rM 2 (in3 (k := 2) (by decide))) ((N_r 2 (in3 (k := 2) (by decide))).trans amt_rr2.symm)) $$ [Hc HO Hat]
  · isplitr; · iexact HI
    isplitl [Hc]; · iexact Hc
    isplitl [HO]; · iexact HO
    isplitr; · iexact Hlev
    iexact Hat
  iintro ⟨HO, Hat, Hpay⟩
  ihave Ha := (Entails.of_eq (payv_rr2 D c)) $$ Hpay
  iapply (load_slab D c (pos c + 3) _ (k0_off1_eq c 2)) $$ Hpp
  iintro Hpp
  iapply (load_is c rM 2 (in3 (k := 2) (by decide)) (ret D c 2)) $$ Ha
  iintro Ha
  iapply (load_y c f) $$ Hy
  iintro %v Hy
  iapply (store_y c f (out D c)) $$ Hy
  iintro Hy
  iapply (wait_dma D K c (fsI 0) (by decide) (n := 3) (Above.zero _) (lv_fs0 c) (dst := slotM sM 0 (in3 (k := 0) (by decide))) ((N_s 0 (in3 (k := 0) (by decide))).trans amt_fs0.symm)) $$ [Hc1 HO Hat1]
  · isplitr; · iexact HI
    isplitl [Hc1]; · iexact Hc1
    isplitl [HO]; · iexact HO
    isplitr; · iexact Hlev
    iexact Hat1
  iintro ⟨HO, Hat1, Hpay⟩
  ihave Hb := (Entails.of_eq (payv_fs0 D c)) $$ Hpay
  iapply (wait_dma D K c (rsI 0) (by decide) (n := 3) (Above.zero _) (lv_rs0 c) (dst := slotM oM 0 (in3 (k := 0) (by decide))) ((N_o 0 (in3 (k := 0) (by decide))).trans amt_rs0.symm)) $$ [Hc2 HO Hat2]
  · isplitr; · iexact HI
    isplitl [Hc2]; · iexact Hc2
    isplitl [HO]; · iexact HO
    isplitr; · iexact Hlev
    iexact Hat2
  iintro ⟨HO, Hat2, Hpay⟩
  ihave Hd := (Entails.of_eq (payv_rs0 D c)) $$ Hpay
  rw [wp_pure]; imodintro
  iapply Hk
  isplitl [HO]; · iexists _; iexact HO
  isplitl [Hpp]; · iexact Hpp
  isplitl [Hat]; · iexact Hat
  isplitl [Ha]; · iapply slotIs_any; iexact Ha
  isplitl [Hy]; · iexact Hy
  isplitl [Hat1]; · iexact Hat1
  isplitl [Hb]; · iexact Hb
  isplitl [Hat2]; · iexact Hat2
  iexact Hd

/-- Three more sends are awaited. -/
theorem part13_run {Q : PUnit → sProp (MT nD τ sig Unit (Elt F) ℕ UU ℕ)}  :
    iprop(invs D K
      ∗ ow c 0
      ∗ levAts L lv
      ∗ Cr c (fsI 1)
      ∗ At c (fsI 1) 0
      ∗ Cr c (rsI 1)
      ∗ At c (rsI 1) 0
      ∗ Cr c (fsI 2)
      ∗ At c (fsI 2) 0)
      ⊢ iprop(((ow c 0
      ∗ At c (fsI 1) 1
      ∗ slotAny sM 1 (in3 (k := 1) (by decide)) c
      ∗ At c (rsI 1) 1
      ∗ slotAny oM 1 (in3 (k := 1) (by decide)) c
      ∗ At c (fsI 2) 1
      ∗ slotAny sM 2 (in3 (k := 2) (by decide)) c) -∗ Q ⟨⟩)
        -∗ wp frame (wpE (defs₀ (F := F)) 𝒱₀ c none) Set.univ (k0_part13 xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10) Q) := by
  rw [k0_part13_eq_skeleton]; unfold k0_part13_skel
  simp only [Prog.lift, Prog.bind_op, Prog.bind_ret, sem_fs0, sem_fs1, sem_fs2, sem_fr0, sem_fr1, sem_fr2, sem_rs0, sem_rs1, sem_rs2, sem_rr0, sem_rr1, sem_rr2, sem_ws0, sem_ws1]
  unfold ow
  iintro ⟨#HI, ⟨%W, HO⟩, #Hlev, Hc, Hat, Hc1, Hat1, Hc2, Hat2⟩ Hk
  iapply (wait_dma D K c (fsI 1) (by decide) (n := 3) (Above.zero _) (lv_fs1 c) (dst := slotM sM 1 (in3 (k := 1) (by decide))) ((N_s 1 (in3 (k := 1) (by decide))).trans amt_fs1.symm)) $$ [Hc HO Hat]
  · isplitr; · iexact HI
    isplitl [Hc]; · iexact Hc
    isplitl [HO]; · iexact HO
    isplitr; · iexact Hlev
    iexact Hat
  iintro ⟨HO, Hat, Hpay⟩
  ihave Ha := (Entails.of_eq (payv_fs1 D c)) $$ Hpay
  iapply (wait_dma D K c (rsI 1) (by decide) (n := 3) (Above.zero _) (lv_rs1 c) (dst := slotM oM 1 (in3 (k := 1) (by decide))) ((N_o 1 (in3 (k := 1) (by decide))).trans amt_rs1.symm)) $$ [Hc1 HO Hat1]
  · isplitr; · iexact HI
    isplitl [Hc1]; · iexact Hc1
    isplitl [HO]; · iexact HO
    isplitr; · iexact Hlev
    iexact Hat1
  iintro ⟨HO, Hat1, Hpay⟩
  ihave Hb := (Entails.of_eq (payv_rs1 D c)) $$ Hpay
  iapply (wait_dma D K c (fsI 2) (by decide) (n := 3) (Above.zero _) (lv_fs2 c) (dst := slotM sM 2 (in3 (k := 2) (by decide))) ((N_s 2 (in3 (k := 2) (by decide))).trans amt_fs2.symm)) $$ [Hc2 HO Hat2]
  · isplitr; · iexact HI
    isplitl [Hc2]; · iexact Hc2
    isplitl [HO]; · iexact HO
    isplitr; · iexact Hlev
    iexact Hat2
  iintro ⟨HO, Hat2, Hpay⟩
  ihave Hd := (Entails.of_eq (payv_fs2 D c)) $$ Hpay
  rw [wp_pure]; imodintro
  iapply Hk
  isplitl [HO]; · iexists _; iexact HO
  isplitl [Hat]; · iexact Hat
  isplitl [Ha]; · iexact Ha
  isplitl [Hat1]; · iexact Hat1
  isplitl [Hb]; · iexact Hb
  isplitl [Hat2]; · iexact Hat2
  iexact Hd

end Parts

end Cert.KernelIdeal.Talk

end
-- ==== Proof.Body3.lean ====
/-
  The kernel's whole body: its thirteen parts in order, and the last wait; then the closing of its transfer cells.
-/
module

public import proofs.«01_k».proof.Proof.Body2

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (D : Data F)

section Parts
variable (K : GSem nD τ sig → ℕ) (c : Dev nD)

set_option maxHeartbeats 4000000 in
set_option maxRecDepth 65536 in
/-- The body of the kernel on device c, from its buffers, its tokens and credits, to the result in the output buffer with every
buffer back, every transfer cell past its only round, and nothing owed. -/
theorem body_run {Q : PUnit → sProp (MT nD τ sig Unit (Elt F) ℕ UU ℕ)} (f : (cc0_stg2_0 : Ref sig .tc).ty.Contents (Elt F))
    (f4 : (cc0_scratch4 : Ref sig .tc).ty.Contents (Elt F)) (f5 : (cc0_scratch5 : Ref sig .tc).ty.Contents (Elt F)) :
    iprop(invs D K
      ∗ pt c main_arg2 (D.w1 c)
      ∗ pt c main_arg3 (D.w2 c)
      ∗ pt c cc0_stg0_0 (D.x c)
      ∗ pt c cc0_stg1_0 (D.p c)
      ∗ pt c cc0_stg2_0 f
      ∗ pt c cc0_scratch4 f4
      ∗ pt c cc0_scratch5 f5
      ∗ slotAny sM 0 (in3 (k := 0) (by decide)) c
      ∗ slotAny sM 1 (in3 (k := 1) (by decide)) c
      ∗ slotAny sM 2 (in3 (k := 2) (by decide)) c
      ∗ slotAny aM 0 (in3 (k := 0) (by decide)) c
      ∗ slotAny aM 1 (in3 (k := 1) (by decide)) c
      ∗ slotAny aM 2 (in3 (k := 2) (by decide)) c
      ∗ slotAny oM 0 (in3 (k := 0) (by decide)) c
      ∗ slotAny oM 1 (in3 (k := 1) (by decide)) c
      ∗ slotAny oM 2 (in3 (k := 2) (by decide)) c
      ∗ slotAny rM 0 (in3 (k := 0) (by decide)) c
      ∗ slotAny rM 1 (in3 (k := 1) (by decide)) c
      ∗ slotAny rM 2 (in3 (k := 2) (by decide)) c
      ∗ ow c (OB0 c)
      ∗ levAts L lv
      ∗ dutyTok ER (bar (peer 1 c)) 0 0
      ∗ dutyTok ER (bar (peer 2 c)) 0 1
      ∗ dutyTok ER (bar (peer 3 c)) 0 2
      ∗ reached ER (bar (peer 1 c)) 0
      ∗ reached ER (bar (peer 2 c)) 0
      ∗ reached ER (bar (peer 3 c)) 0
      ∗ Tok c (fsI 0)
      ∗ Tok (peer 1 c) (frI 0)
      ∗ Tok c (rsI 0)
      ∗ Tok (peer 3 c) (rrI 0)
      ∗ Tok c (fsI 1)
      ∗ Tok (peer 2 c) (frI 1)
      ∗ Tok c (rsI 1)
      ∗ Tok (peer 2 c) (rrI 1)
      ∗ Tok c (fsI 2)
      ∗ Tok (peer 3 c) (frI 2)
      ∗ Tok c (rsI 2)
      ∗ Tok (peer 1 c) (rrI 2)
      ∗ Tok c (wI 0)
      ∗ Tok c (wI 1)
      ∗ Rch c (fsI 0)
      ∗ Rch c (fsI 1)
      ∗ Rch c (fsI 2)
      ∗ Rch c (frI 0)
      ∗ Rch c (frI 1)
      ∗ Rch c (frI 2)
      ∗ Rch c (rsI 0)
      ∗ Rch c (rsI 1)
      ∗ Rch c (rsI 2)
      ∗ Rch c (rrI 0)
      ∗ Rch c (rrI 1)
      ∗ Rch c (rrI 2)
      ∗ Rch c (wI 0)
      ∗ Rch c (wI 1)
      ∗ At c (fsI 0) 0
      ∗ At c (fsI 1) 0
      ∗ At c (fsI 2) 0
      ∗ At c (frI 0) 0
      ∗ At c (frI 1) 0
      ∗ At c (frI 2) 0
      ∗ At c (rsI 0) 0
      ∗ At c (rsI 1) 0
      ∗ At c (rsI 2) 0
      ∗ At c (rrI 0) 0
      ∗ At c (rrI 1) 0
      ∗ At c (rrI 2) 0
      ∗ At c (wI 0) 0
      ∗ At c (wI 1) 0
      ∗ atPos ER (bar c) 0 ∅ 0
      ∗ cred (tallyAt (bar c) () 3)
      ∗ Cr c (frI 0)
      ∗ Cr c (frI 1)
      ∗ Cr c (frI 2)
      ∗ Cr c (rrI 0)
      ∗ Cr c (rrI 1)
      ∗ Cr c (rrI 2))
      ⊢ iprop(((pt c main_arg2 (D.w1 c)
      ∗ pt c main_arg3 (D.w2 c)
      ∗ pt c cc0_stg0_0 (D.x c)
      ∗ pt c cc0_stg1_0 (D.p c)
      ∗ pt c cc0_stg2_0 (out D c)
      ∗ pt c cc0_scratch4 (D.w1 c)
      ∗ pt c cc0_scratch5 (D.w2 c)
      ∗ slotAny sM 0 (in3 (k := 0) (by decide)) c
      ∗ slotAny sM 1 (in3 (k := 1) (by decide)) c
      ∗ slotAny sM 2 (in3 (k := 2) (by decide)) c
      ∗ slotAny aM 0 (in3 (k := 0) (by decide)) c
      ∗ slotAny aM 1 (in3 (k := 1) (by decide)) c
      ∗ slotAny aM 2 (in3 (k := 2) (by decide)) c
      ∗ slotAny oM 0 (in3 (k := 0) (by decide)) c
      ∗ slotAny oM 1 (in3 (k := 1) (by decide)) c
      ∗ slotAny oM 2 (in3 (k := 2) (by decide)) c
      ∗ slotAny rM 0 (in3 (k := 0) (by decide)) c
      ∗ slotAny rM 1 (in3 (k := 1) (by decide)) c
      ∗ slotAny rM 2 (in3 (k := 2) (by decide)) c
      ∗ ow c 0
      ∗ At c (fsI 0) 1
      ∗ At c (fsI 1) 1
      ∗ At c (fsI 2) 1
      ∗ At c (frI 0) 1
      ∗ At c (frI 1) 1
      ∗ At c (frI 2) 1
      ∗ At c (rsI 0) 1
      ∗ At c (rsI 1) 1
      ∗ At c (rsI 2) 1
      ∗ At c (rrI 0) 1
      ∗ At c (rrI 1) 1
      ∗ At c (rrI 2) 1
      ∗ At c (wI 0) 1
      ∗ At c (wI 1) 1
      ∗ atPos ER (bar c) 1 ∅ 0) -∗ Q ⟨⟩)
        -∗ wp frame (wpE (defs₀ (F := F)) 𝒱₀ c none) Set.univ (cc0_body xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10) Q) := by
  rw [cc0_body_eq_skeleton]; unfold cc0_body_skel
  iintro ⟨#HI, HG1, HG2, HX, HP, HY, HW1, HW2, SsM0, SsM1, SsM2, SaM0, SaM1, SaM2, SoM0, SoM1, SoM2, SrM0, SrM1, SrM2, HO, #Hlev, TB0, TB1, TB2, #RB0, #RB1, #RB2, Tfs0, Tfr0, Trs0, Trr0, Tfs1, Tfr1, Trs1, Trr1, Tfs2, Tfr2, Trs2, Trr2, Tw0, Tw1, #Rfs0, #Rfs1, #Rfs2, #Rfr0, #Rfr1, #Rfr2, #Rrs0, #Rrs1, #Rrs2, #Rrr0, #Rrr1, #Rrr2, #Rw0, #Rw1, Afs0, Afs1, Afs2, Afr0, Afr1, Afr2, Ars0, Ars1, Ars2, Arr0, Arr1, Arr2, Aw0, Aw1, AB, CB, Cfr0, Cfr1, Cfr2, Crr0, Crr1, Crr2⟩ Hk
  try dsimp only
  rw [wp_bind]
  iapply (part1_run D K c f4 f5) $$ [HG1 HW1 HG2 HW2 Tw0 Tw1 HO TB0 SaM2 SrM0 TB1 SaM1 SrM1]
  · isplitr; · iexact HI
    isplitl [HG1]; · iexact HG1
    isplitl [HW1]; · iexact HW1
    isplitl [HG2]; · iexact HG2
    isplitl [HW2]; · iexact HW2
    isplitl [Tw0]; · iexact Tw0
    isplitr; · iexact Rw0
    isplitl [Tw1]; · iexact Tw1
    isplitr; · iexact Rw1
    isplitl [HO]; · iexact HO
    isplitl [TB0]; · iexact TB0
    isplitr; · iexact RB0
    isplitl [SaM2 SrM0]
    · iapply (lend0 c); isplitl [SaM2]; · iexact SaM2
      isplitl [SrM0]; · iexact SrM0
      isplitr; · iexact Rfr2
      iexact Rrr0
    isplitl [TB1]; · iexact TB1
    isplitr; · iexact RB1
    iapply (lend1 c); isplitl [SaM1]; · iexact SaM1
    isplitl [SrM1]; · iexact SrM1
    isplitr; · iexact Rfr1
    iexact Rrr1
  iintro ⟨Cw0, Cw1, HO⟩ %v2 %v5 %v8 %v30 %v
  try dsimp only
  rw [wp_bind]
  iapply (part2_run D K c v2 v5 v8 v30 v) $$ [HO TB2 SaM0 SrM2 CB AB HX HP SsM0]
  · isplitr; · iexact HI
    isplitl [HO]; · iexact HO
    isplitl [TB2]; · iexact TB2
    isplitr; · iexact RB2
    isplitl [SaM0 SrM2]
    · iapply (lend2 c); isplitl [SaM0]; · iexact SaM0
      isplitl [SrM2]; · iexact SrM2
      isplitr; · iexact Rfr0
      iexact Rrr2
    isplitl [CB]; · iexact CB
    isplitr; · iexact Hlev
    isplitl [AB]; · iexact AB
    isplitl [HX]; · iexact HX
    isplitl [HP]; · iexact HP
    iexact SsM0
  iintro ⟨HO, AB, B0, B1, B2, HX, HP, SsM0⟩
  unfold barPay
  icases B0 with ⟨SaP2, SrP0, #RfrP2, #RrrP0⟩
  icases B1 with ⟨SaP1, SrP1, #RfrP1, #RrrP1⟩
  icases B2 with ⟨SaP0, SrP2, #RfrP0, #RrrP2⟩
  try dsimp only
  rw [wp_bind]
  iapply (part3_run D K c v2 v5 v8) $$ [HO HP SsM0 SsM1 SaP0 Tfs0 Tfr0 SaP1 Tfs1 Tfr1]
  · isplitr; · iexact HI
    isplitl [HO]; · iexact HO
    isplitl [HP]; · iexact HP
    isplitl [SsM0]; · iexact SsM0
    isplitl [SsM1]; · iexact SsM1
    isplitl [SaP0]; · iexact SaP0
    isplitr; · iexact RfrP0
    isplitl [Tfs0]; · iexact Tfs0
    isplitr; · iexact Rfs0
    isplitl [Tfr0]; · iexact Tfr0
    isplitl [SaP1]; · iexact SaP1
    isplitr; · iexact RfrP1
    isplitl [Tfs1]; · iexact Tfs1
    isplitr; · iexact Rfs1
    iexact Tfr1
  iintro ⟨HO, HP, Cfs0, Cfs1⟩ %v90
  try dsimp only
  rw [wp_bind]
  iapply (part4_run D K c v2 v5 v90) $$ [HO HP SsM2 SaP2 Tfs2 Tfr2 Cw0 Aw0 Cw1 Aw1]
  · isplitr; · iexact HI
    isplitl [HO]; · iexact HO
    isplitl [HP]; · iexact HP
    isplitl [SsM2]; · iexact SsM2
    isplitl [SaP2]; · iexact SaP2
    isplitr; · iexact RfrP2
    isplitl [Tfs2]; · iexact Tfs2
    isplitr; · iexact Rfs2
    isplitl [Tfr2]; · iexact Tfr2
    isplitr; · iexact Hlev
    isplitl [Cw0]; · iexact Cw0
    isplitl [Aw0]; · iexact Aw0
    isplitl [Cw1]; · iexact Cw1
    iexact Aw1
  iintro ⟨HO, HP, Cfs2, Aw0, Aw1, HW1, HG1, HW2, HG2⟩
  try dsimp only
  rw [show k0_pay5 (wAv D c) = wA D c from rfl, show k0_pay6 (wBv D c) = wB D c from rfl]
  try dsimp only
  rw [wp_bind]
  iapply (part5_run D K c v2 v5 v8) $$ [HP HW2]
  · isplitr; · iexact HI
    isplitl [HP]; · iexact HP
    iexact HW2
  iintro ⟨HP, HW2⟩
  try dsimp only
  rw [wp_bind]
  iapply (part6_run D K c v2 v5 v8) $$ [HO Cfr0 Afr0 SoM0]
  · isplitr; · iexact HI
    isplitl [HO]; · iexact HO
    isplitr; · iexact Hlev
    isplitl [Cfr0]; · iexact Cfr0
    isplitl [Afr0]; · iexact Afr0
    iexact SoM0
  iintro ⟨HO, Afr0, SaM0, SoM0⟩
  try dsimp only
  rw [wp_bind]
  iapply (part7_run D K c v2 v5 v8) $$ [HO SoM0 SrP0 Trs0 Trr0 Cfr1 Afr1]
  · isplitr; · iexact HI
    isplitl [HO]; · iexact HO
    isplitr; · iexact Hlev
    isplitl [SoM0]; · iexact SoM0
    isplitl [SrP0]; · iexact SrP0
    isplitr; · iexact RrrP0
    isplitl [Trs0]; · iexact Trs0
    isplitr; · iexact Rrs0
    isplitl [Trr0]; · iexact Trr0
    isplitl [Cfr1]; · iexact Cfr1
    iexact Afr1
  iintro ⟨HO, Crs0, Afr1, SaM1⟩
  try dsimp only
  rw [wp_bind]
  iapply (part8_run D K c v2 v5 v8) $$ [HO SoM1 SrP1 Trs1 Trr1]
  · isplitr; · iexact HI
    isplitl [HO]; · iexact HO
    isplitl [SoM1]; · iexact SoM1
    isplitl [SrP1]; · iexact SrP1
    isplitr; · iexact RrrP1
    isplitl [Trs1]; · iexact Trs1
    isplitr; · iexact Rrs1
    iexact Trr1
  iintro ⟨HO, Crs1⟩
  try dsimp only
  rw [wp_bind]
  iapply (part9_run D K c v2 v5 v8) $$ [HO Cfr2 Afr2 SoM2]
  · isplitr; · iexact HI
    isplitl [HO]; · iexact HO
    isplitr; · iexact Hlev
    isplitl [Cfr2]; · iexact Cfr2
    isplitl [Afr2]; · iexact Afr2
    iexact SoM2
  iintro ⟨HO, Afr2, SaM2, SoM2⟩
  try dsimp only
  rw [wp_bind]
  iapply (part10_run D K c v2 v5 v8) $$ [HO HP SoM2 SrP2 Trs2 Trr2 Crr0 Arr0]
  · isplitr; · iexact HI
    isplitl [HO]; · iexact HO
    isplitr; · iexact Hlev
    isplitl [HP]; · iexact HP
    isplitl [SoM2]; · iexact SoM2
    isplitl [SrP2]; · iexact SrP2
    isplitr; · iexact RrrP2
    isplitl [Trs2]; · iexact Trs2
    isplitr; · iexact Rrs2
    isplitl [Trr2]; · iexact Trr2
    isplitl [Crr0]; · iexact Crr0
    iexact Arr0
  iintro ⟨HO, HP, Crs2, Arr0, SrM0⟩
  try dsimp only
  rw [wp_bind]
  iapply (part11_run D K c v2 v5 v8) $$ [HO HP Crr1 Arr1]
  · isplitr; · iexact HI
    isplitl [HO]; · iexact HO
    isplitr; · iexact Hlev
    isplitl [HP]; · iexact HP
    isplitl [Crr1]; · iexact Crr1
    iexact Arr1
  iintro ⟨HO, HP, Arr1, SrM1⟩
  try dsimp only
  rw [wp_bind]
  iapply (part12_run D K c f v8) $$ [HO HP Crr2 Arr2 HY Cfs0 Afs0 Crs0 Ars0]
  · isplitr; · iexact HI
    isplitl [HO]; · iexact HO
    isplitr; · iexact Hlev
    isplitl [HP]; · iexact HP
    isplitl [Crr2]; · iexact Crr2
    isplitl [Arr2]; · iexact Arr2
    isplitl [HY]; · iexact HY
    isplitl [Cfs0]; · iexact Cfs0
    isplitl [Afs0]; · iexact Afs0
    isplitl [Crs0]; · iexact Crs0
    iexact Ars0
  iintro ⟨HO, HP, Arr2, SrM2, HY, Afs0, SsM0, Ars0, SoM0⟩
  try dsimp only
  rw [wp_bind]
  iapply (part13_run D K c ) $$ [HO Cfs1 Afs1 Crs1 Ars1 Cfs2 Afs2]
  · isplitr; · iexact HI
    isplitl [HO]; · iexact HO
    isplitr; · iexact Hlev
    isplitl [Cfs1]; · iexact Cfs1
    isplitl [Afs1]; · iexact Afs1
    isplitl [Crs1]; · iexact Crs1
    isplitl [Ars1]; · iexact Ars1
    isplitl [Cfs2]; · iexact Cfs2
    iexact Afs2
  iintro ⟨HO, Afs1, SsM1, Ars1, SoM1, Afs2, SsM2⟩
  try dsimp only
  simp only [Prog.lift, Prog.bind_op, Prog.bind_ret, sem_rs2]
  unfold ow
  icases HO with ⟨%W, HO⟩
  iapply (wait_dma D K c (rsI 2) (by decide) (n := 3) (Above.zero _) (lv_rs2 c) (dst := slotM oM 2 (in3 (k := 2) (by decide))) ((N_o 2 (in3 (k := 2) (by decide))).trans amt_rs2.symm)) $$ [Crs2 HO Ars2]
  · isplitr; · iexact HI
    isplitl [Crs2]; · iexact Crs2
    isplitl [HO]; · iexact HO
    isplitr; · iexact Hlev
    iexact Ars2
  iintro ⟨HO, Ars2, Hpay⟩
  ihave SoM2 := (Entails.of_eq (payv_rs2 D c)) $$ Hpay
  rw [wp_pure]; imodintro
  iapply Hk
  isplitl [HG1]; · iexact HG1
  isplitl [HG2]; · iexact HG2
  isplitl [HX]; · iexact HX
  isplitl [HP]; · iexact HP
  isplitl [HY]; · iexact HY
  isplitl [HW1]; · iexact HW1
  isplitl [HW2]; · iexact HW2
  isplitl [SsM0]; · iexact SsM0
  isplitl [SsM1]; · iexact SsM1
  isplitl [SsM2]; · iexact SsM2
  isplitl [SaM0]; · iexact SaM0
  isplitl [SaM1]; · iexact SaM1
  isplitl [SaM2]; · iexact SaM2
  isplitl [SoM0]; · iexact SoM0
  isplitl [SoM1]; · iexact SoM1
  isplitl [SoM2]; · iexact SoM2
  isplitl [SrM0]; · iexact SrM0
  isplitl [SrM1]; · iexact SrM1
  isplitl [SrM2]; · iexact SrM2
  isplitl [HO]; · iexists _; iexact HO
  isplitl [Afs0]; · iexact Afs0
  isplitl [Afs1]; · iexact Afs1
  isplitl [Afs2]; · iexact Afs2
  isplitl [Afr0]; · iexact Afr0
  isplitl [Afr1]; · iexact Afr1
  isplitl [Afr2]; · iexact Afr2
  isplitl [Ars0]; · iexact Ars0
  isplitl [Ars1]; · iexact Ars1
  isplitl [Ars2]; · iexact Ars2
  isplitl [Arr0]; · iexact Arr0
  isplitl [Arr1]; · iexact Arr1
  isplitl [Arr2]; · iexact Arr2
  isplitl [Aw0]; · iexact Aw0
  isplitl [Aw1]; · iexact Aw1
  iexact AB

end Parts

end Cert.KernelIdeal.Talk

end
-- ==== Proof.Slots.lean ====
/-
  A buffer of three slots, held whole, is its three slots; the kernel's own transfer cells, opened at entry and closed at exit.
-/
module

public import proofs.«01_k».proof.Proof.Body1

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Smoke (bigSep_pair bigSep_unpair)

variable {F : FTy → Type} [FloatOps F]

local notation "𝕄" => MT nD τ sig Unit (Elt F) ℕ UU ℕ

variable (D : Data F)

/-! ## Slots -/

/-- An index lies in slot k exactly when its first coordinate is k. -/
theorem mem_sRect (k : ℕ) (h : In3 k) (i : S3x160x512.Idx) : i ∈ (sRect k h).set ↔ (i 0).val = k := by
  rw [Rect.mem_set_unit]
  constructor
  · intro hi
    have h0 := hi 0
    have e1 : (![k, 0, 0] : Fin 3 → ℕ) 0 = k := rfl
    have e2 : S1x160x512.size 0 = 1 := rfl
    have h1 : k ≤ (i 0).val := h0.1
    have h2 : (i 0).val < k + 1 := h0.2
    omega
  · intro hi
    refine fun | ⟨0, _⟩ => ?_ | ⟨1, _⟩ => ?_ | ⟨2, _⟩ => ?_
    · show k ≤ (i 0).val ∧ (i 0).val < k + 1
      omega
    · show 0 ≤ (i 1).val ∧ (i 1).val < 0 + 160
      exact ⟨Nat.zero_le _, by rw [Nat.zero_add]; exact (i 1).isLt⟩
    · show 0 ≤ (i 2).val ∧ (i 2).val < 0 + 512
      exact ⟨Nat.zero_le _, by rw [Nat.zero_add]; exact (i 2).isLt⟩

section Slot
variable (M : Memref sig .tc .vmem S3x160x512 .bf16) (c : Dev nD)

/-- The elements of the buffer that slot k holds. -/
def slotSet (k : ℕ) (h : In3 k) : Finset M.view.ty.Idx := (sRect k h).set.map M.view.emb

/-- A slot with some contents, spelled out. -/
theorem slotAny_eq (k : ℕ) (h : In3 k) : (slotAny M k h c : sProp 𝕄)
    = iprop(∃ f : Buf (Elt F) (M.view.loc (c : Thread nD τ)), M.view.loc (c : Thread nD τ) ↦[slotSet M k h]{fullShare} f) := by
  have e : (slotM M k h).view.set = slotSet M k h := (slot_set M k h).trans (View.set_slice _ _)
  unfold slotAny
  show iprop(∃ f : Buf (Elt F) (M.view.loc (c : Thread nD τ)), M.view.loc (c : Thread nD τ) ↦[(slotM M k h).view.set]{fullShare} f) = _
  rw [e]

/-- Two different slots share no element. -/
theorem slots_disjoint (j k : ℕ) (hj : In3 j) (hk : In3 k) (h : j ≠ k) : Disjoint (slotSet M j hj) (slotSet M k hk) := by
  unfold slotSet
  rw [Finset.disjoint_map, Finset.disjoint_left]
  intro i h1 h2
  rw [mem_sRect] at h1 h2
  exact h (h1.symm.trans h2)

/-- The three slots are all of the buffer. -/
theorem slots_union (h0 : In3 0) (h1 : In3 1) (h2 : In3 2) : slotSet M 0 h0 ∪ (slotSet M 1 h1 ∪ slotSet M 2 h2) = M.view.set := by
  unfold slotSet
  rw [← Finset.map_union, ← Finset.map_union]
  refine congrArg (Finset.map M.view.emb) (Finset.eq_univ_of_forall fun i => ?_)
  rw [Finset.mem_union, Finset.mem_union, mem_sRect, mem_sRect, mem_sRect]
  have h3 : (i 0).val < 3 := (i 0).isLt
  omega

/-- The first slot is apart from the other two. -/
theorem slots_disjoint3 (h0 : In3 0) (h1 : In3 1) (h2 : In3 2) : Disjoint (slotSet M 0 h0) (slotSet M 1 h1 ∪ slotSet M 2 h2) :=
  Finset.disjoint_union_right.mpr ⟨slots_disjoint M 0 1 _ _ (by decide), slots_disjoint M 0 2 _ _ (by decide)⟩

/-- A whole buffer of slots comes apart. -/
theorem slots_split (h0 : In3 0) (h1 : In3 1) (h2 : In3 2) (f : Buf (Elt F) (M.view.loc (c : Thread nD τ))) :
    (M.view.loc (c : Thread nD τ) ↦[M.view.set]{fullShare} f : sProp 𝕄)
      ⊢ iprop(slotAny M 0 h0 c ∗ slotAny M 1 h1 c ∗ slotAny M 2 h2 c) := by
  rw [← slots_union M h0 h1 h2, slotAny_eq, slotAny_eq, slotAny_eq]
  iintro H
  ihave H' := (pointsTo_union (f := f) (q := fullShare) (slots_disjoint3 M h0 h1 h2)).1 $$ H
  icases H' with ⟨H0, H⟩
  ihave H' := (pointsTo_union (f := f) (q := fullShare) (slots_disjoint M 1 2 h1 h2 (by decide))).1 $$ H
  icases H' with ⟨H1, H2⟩
  isplitl [H0]; · iexists f; iexact H0
  isplitl [H1]; · iexists f; iexact H1
  iexists f; iexact H2

/-- Three slots make the whole buffer. -/
theorem slots_merge (h0 : In3 0) (h1 : In3 1) (h2 : In3 2) :
    iprop(slotAny M 0 h0 c ∗ slotAny M 1 h1 c ∗ slotAny M 2 h2 c)
      ⊢ (iprop(∃ f : Buf (Elt F) (M.view.loc (c : Thread nD τ)), M.view.loc (c : Thread nD τ) ↦[M.view.set]{fullShare} f) : sProp 𝕄) := by
  rw [← slots_union M h0 h1 h2, slotAny_eq, slotAny_eq, slotAny_eq]
  iintro ⟨⟨%f, H0⟩, ⟨%g, H1⟩, ⟨%h, H2⟩⟩
  ihave H := (pointsTo_join (f := g) (g := h) (q := fullShare) (slots_disjoint M 1 2 h1 h2 (by decide))) $$ [H1 H2]
  · isplitl [H1] <;> iassumption
  ihave H' := (pointsTo_join (f := f) (q := fullShare) (slots_disjoint3 M h0 h1 h2)) $$ [H0 H]
  · isplitl [H0] <;> iassumption
  iexists _; iexact H'

end Slot

/-! ## The kernel's own cells -/

/-- Fourteen conjuncts, one by one. -/
theorem bigSep_14 {M : Type} [URA M] (Φ : Fin 14 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- Each of the kernel's own transfer semaphores, by its number. -/
def osem (i : Fin 14) : SemLoc sig := .dma (ownI i)

/-- The fourteen scratch counters are as the launch lists them. -/
theorem osem_ok : Pipeline.OwnSemFacts spec0 osem := by decide

section Cells
variable (K : GSem nD τ sig → ℕ) (c : Dev nD)

/-- The copy cells come after the windows' own three. -/
theorem own_ge (i : Fin 14) : 3 ≤ (ownI i).val := by rw [ownI_val]; omega

/-- Opening the cells: fourteen dormant cells, with their counters at zero, are fourteen cells at round 0. -/
theorem open_cells :
    iprop(invs D K ∗ (bigSep Finset.univ fun i : Fin 14 => openTok ER (dc c (ownI i))) ∗ (bigSep Finset.univ fun i : Fin 14 => semVal (dc c (ownI i)) 0))
      ⊢ (|={Set.univ}=> iprop((bigSep Finset.univ fun i : Fin 14 => atPos ER (dc c (ownI i)) 0 ∅ 0)
          ∗ (bigSep Finset.univ fun i : Fin 14 => reached ER (dc c (ownI i)) 0)) : sProp 𝕄) := by
  have one (i : Fin 14) : iprop(invs D K ∗ (openTok ER (dc c (ownI i)) ∗ semVal (dc c (ownI i)) 0))
      ⊢ (|={Set.univ}=> iprop(atPos ER (dc c (ownI i)) 0 ∅ 0 ∗ reached ER (dc c (ownI i)) 0) : sProp 𝕄) := by
    iintro ⟨#HI, Ho, Hs⟩
    iapply (Rounds.cell_open ER (talkRd D) (g := dc c (ownI i)) (Set.mem_univ (K (dc c (ownI i)))))
    isplitr; · iapply (inv_dma D K c (ownI i) (own_ge i)); iexact HI
    isplitl [Ho] <;> iassumption
  iintro ⟨#HI, Ho, Hs⟩
  ihave H := (bigSep_pair (Φ := fun i : Fin 14 => (openTok ER (dc c (ownI i)) : sProp 𝕄)) (Ψ := fun i => (semVal (dc c (ownI i)) 0 : sProp 𝕄))) $$ [Ho Hs]
  · isplitl [Ho] <;> iassumption
  ihave H' := (bigSep_with_persistent (R := invs D K) (Φ := fun i : Fin 14 => iprop(openTok ER (dc c (ownI i)) ∗ semVal (dc c (ownI i)) 0))
    (Ψ := fun i : Fin 14 => iprop(|={Set.univ}=> iprop(atPos ER (dc c (ownI i)) 0 ∅ 0 ∗ reached ER (dc c (ownI i)) 0))) (S := Finset.univ) fun i _ => one i) $$ [H]
  · isplitr; · iexact HI
    iexact H
  imod (bigSep_fupd _ _) $$ H' with H
  imodintro
  iapply bigSep_unpair
  iexact H

/-- Closing the cells: fourteen cells past their only round give their counters back at zero. -/
theorem close_cells :
    iprop(invs D K ∗ (bigSep Finset.univ fun i : Fin 14 => atPos ER (dc c (ownI i)) 1 ∅ 0))
      ⊢ (|={Set.univ}=> (bigSep Finset.univ fun i : Fin 14 => semVal (dc c (ownI i)) 0) : sProp 𝕄) := by
  have one (i : Fin 14) : iprop(invs D K ∗ atPos ER (dc c (ownI i)) 1 ∅ 0)
      ⊢ (|={Set.univ}=> semVal (dc c (ownI i)) 0 : sProp 𝕄) := by
    iintro ⟨#HI, Ho⟩
    iapply (Rounds.cell_close ER (talkRd D) (g := dc c (ownI i)) (Set.mem_univ (K (dc c (ownI i)))) id (hR := duties_later D _))
    isplitr; · iapply (inv_dma D K c (ownI i) (own_ge i)); iexact HI
    iexact Ho
  iintro ⟨#HI, Ho⟩
  ihave H' := (bigSep_with_persistent (R := invs D K) (Φ := fun i : Fin 14 => atPos ER (dc c (ownI i)) 1 ∅ 0)
    (Ψ := fun i : Fin 14 => iprop(|={Set.univ}=> semVal (dc c (ownI i)) 0)) (S := Finset.univ) fun i _ => one i) $$ [Ho]
  · isplitr; · iexact HI
    iexact Ho
  imod (bigSep_fupd _ _) $$ H' with H
  imodintro
  iexact H

/-- Closing the barrier cell. -/
theorem close_bar : iprop(invs D K ∗ atPos ER (bar c) 1 ∅ 0) ⊢ (|={Set.univ}=> semVal (bar c) 0 : sProp 𝕄) := by
  iintro ⟨#HI, Ho⟩
  iapply (Rounds.cell_close ER (talkRd D) (g := bar c) (Set.mem_univ (K (bar c))) id (hR := duties_later D _))
  isplitr; · iapply (inv_bar D K c); iexact HI
  iexact Ho

end Cells

end Cert.KernelIdeal.Talk

end
-- ==== Proof.Region.lean ====
/-
  The kernel's region: what enters it, the proof that the body does what the region asks, and the record of the region.
-/
module

public import proofs.«01_k».proof.Proof.Body3
public import proofs.«01_k».proof.Proof.Slots
public import Idealize.ShloMosaic.Lib.Pipeline.ValueKit.Geometry

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ)

/-- What the kernel's buffers hold on each device when the region starts. -/
def Dm : Data F where
  x c := iblk m c 0 t0_0
  p c := iblk m c 1 t0_0
  w1 c := V m c main_arg2
  w2 c := V m c main_arg3

/-! ## The ghost state of one device -/

/-- The tokens of the signals device c sends. -/
def tkB (c : Dev nD) : sProp 𝕄 :=
  iprop(dutyTok ER (bar (peer 1 c)) 0 0 ∗ dutyTok ER (bar (peer 2 c)) 0 1 ∗ dutyTok ER (bar (peer 3 c)) 0 2)

/-- The tokens of the transfers device c starts. -/
def tkD (c : Dev nD) : sProp 𝕄 :=
  iprop(Tok c (fsI 0) ∗ Tok (peer 1 c) (frI 0) ∗ Tok c (rsI 0) ∗ Tok (peer 3 c) (rrI 0) ∗ Tok c (fsI 1) ∗ Tok (peer 2 c) (frI 1) ∗ Tok c (rsI 1) ∗ Tok (peer 2 c) (rrI 1) ∗ Tok c (fsI 2) ∗ Tok (peer 3 c) (frI 2) ∗ Tok c (rsI 2) ∗ Tok (peer 1 c) (rrI 2) ∗ Tok c (wI 0) ∗ Tok c (wI 1))

/-- The credits device c starts with. -/
def crs (c : Dev nD) : sProp 𝕄 :=
  iprop(cred (tallyAt (bar c) () 3) ∗ Cr c (frI 0) ∗ Cr c (frI 1) ∗ Cr c (frI 2) ∗ Cr c (rrI 0) ∗ Cr c (rrI 1) ∗ Cr c (rrI 2))

/-- Every barrier cell has reached round 0. -/
def rB : sProp 𝕄 := bigSep barCells (fun g => reached ER g 0)

/-- That the barrier cells are open can be kept. -/
instance rB_persistent : BI.Persistent (rB (F := F)) := by unfold rB; infer_instance

/-- In particular the barrier cell of c is open. -/
theorem rB_at (c : Dev nD) : (rB : sProp 𝕄) ⊢ reached ER (bar c) 0 := by
  unfold rB; exact BI.bigSep_elim (Finset.mem_map_of_mem barEmb (Finset.mem_univ c))

/-- What device c keeps for the region. -/
def Tk (D : Data F) (c : Dev nD) : sProp 𝕄 :=
  iprop(∃ K, invs D K ∗ rB ∗ (bigSep Finset.univ fun i : Fin 14 => openTok ER (dc c (ownI i)))
    ∗ atPos ER (bar c) 0 ∅ 0 ∗ tkB c ∗ tkD c ∗ crs c)

/-- What it holds once its own cells are open. -/
def Xk (D : Data F) (c : Dev nD) : sProp 𝕄 :=
  iprop(∃ K, invs D K ∗ rB ∗ (bigSep Finset.univ fun i : Fin 14 => atPos ER (dc c (ownI i)) 0 ∅ 0)
    ∗ (bigSep Finset.univ fun i : Fin 14 => reached ER (dc c (ownI i)) 0)
    ∗ atPos ER (bar c) 0 ∅ 0 ∗ tkB c ∗ tkD c ∗ crs c ∗ levAts L lv)

/-- The scratch counters of a device are its fourteen copy cells' at zero. -/
theorem ownSems_eq (c : Dev nD) : (Pipeline.ownSems0 osem c : sProp 𝕄) = bigSep Finset.univ fun i : Fin 14 => semVal (dc c (ownI i)) 0 := rfl

/-- At the start of the region the copy cells are opened, each with its rights and credits. -/
theorem hopen (D : Data F) (c : Dev nD) : iprop(Tk D c ∗ Pipeline.ownSems0 osem c ∗ levAts L lv) ⊢ (|={Set.univ}=> Xk D c : sProp 𝕄) := by
  rw [ownSems_eq]
  unfold Tk Xk
  iintro ⟨⟨%K, #HI, #HrB, Ho, HAB, HTB, HTD, HCr⟩, Hs, #Hlev⟩
  imod (open_cells D K c) $$ [Ho Hs] with ⟨HA, #HR⟩
  · isplitr; · iexact HI
    isplitl [Ho] <;> iassumption
  imodintro
  iexists K
  isplitr; · iexact HI
  isplitr; · iexact HrB
  isplitl [HA]; · iexact HA
  isplitr; · iexact HR
  isplitl [HAB]; · iexact HAB
  isplitl [HTB]; · iexact HTB
  isplitl [HTD]; · iexact HTD
  isplitl [HCr]; · iexact HCr
  iexact Hlev

/-! ## The region's data -/

/-- The buffers besides the windows', which the body addresses itself, and the rest of what the region threads through. -/
def Φ₀ (c : Dev nD) : sProp 𝕄 :=
  iprop(Xk (Dm m) c ∗ pt c main_arg2 (V m c main_arg2) ∗ pt c main_arg3 (V m c main_arg3) ∗ Pipeline.scopedRest spec0 c ∗ ∃ r, prngReg c r)

/-- The same after the body: the barrier's counter and the transfer counters are back at zero. -/
def Φ₁ (c : Dev nD) : sProp 𝕄 :=
  iprop(semVal (bar c) 0 ∗ Pipeline.ownSems0 osem c ∗ pt c main_arg2 (V m c main_arg2) ∗ pt c main_arg3 (V m c main_arg3) ∗ Pipeline.scopedRest spec0 c
    ∗ ∃ r, prngReg c r)

/-- The region's proof data: the two inputs keep their blocks, the output holds the kernel's result. -/
def dat0 (c : Dev nD) : Dat τ (Elt F) Unit ℕ UU ℕ cfg0 c where
  A w := V m c (Pipeline.arrRef spec0 w)
  after := fun
    | 0 => fun t => iblk m c 0 t
    | 1 => fun t => iblk m c 1 t
    | 2 => fun _ => out (Dm m) c
    | ⟨_ + 3, h⟩ => absurd h (Nat.not_lt.2 (Nat.le_add_left _ _))
  Φ t := if t.val = 0 then Φ₀ m c else Φ₁ m c
  q _ := fullShare
  owed t := if t.val = 0 then OB0 c else 0

/-- The body finds the tokens in the first window. -/
theorem before_0 (c : Dev nD) (t : Fin cfg0.N) (d) : (dat0 m c).before 0 t d = iblk m c 0 t :=
  ((dat0 m c).before_in_eq_fetched 0 rfl (fun _ => rfl) (fun _ _ _ => rfl) (fun t => rfl) t d).trans rfl
/-- The body finds the table in the second window. -/
theorem before_1 (c : Dev nD) (t : Fin cfg0.N) (d) : (dat0 m c).before 1 t d = iblk m c 1 t :=
  ((dat0 m c).before_in_eq_fetched 1 rfl (fun _ => rfl) (fun _ _ _ => rfl) (fun t => rfl) t d).trans rfl

/-- At the start a device owes all of its payments. -/
theorem owed_first (c : Dev nD) : (dat0 m c).owed t0_0.castSucc = OB0 c := by
  show (if (t0_0.castSucc : Fin (cfg0.N + 1)).val = 0 then OB0 c else 0) = _; exact if_pos rfl
/-- At the end it owes nothing. -/
theorem owed_last (c : Dev nD) : (dat0 m c).owed t0_0.succ = 0 := by
  show (if (t0_0.succ : Fin (cfg0.N + 1)).val = 0 then OB0 c else 0) = _; exact if_neg (Nat.succ_ne_zero _)
/-- What the body is given beside its windows. -/
theorem Φ_first (c : Dev nD) : (dat0 m c).Φ t0_0.castSucc = Φ₀ m c := by
  show (if (t0_0.castSucc : Fin (cfg0.N + 1)).val = 0 then Φ₀ m c else Φ₁ m c) = _; exact if_pos rfl
/-- What the body gives back beside its windows. -/
theorem Φ_last (c : Dev nD) : (dat0 m c).Φ t0_0.succ = Φ₁ m c := by
  show (if (t0_0.succ : Fin (cfg0.N + 1)).val = 0 then Φ₀ m c else Φ₁ m c) = _; exact if_neg (Nat.succ_ne_zero _)

/-- Owing an amount, as the region states it. -/
theorem ow_intro (c : Dev nD) (t : Fin (cfg0.N + 1)) (O : CellTallies nD τ sig Unit) (h : (dat0 m c).owed t = O) :
    (ow c O : sProp 𝕄) ⊢ (dat0 m c).owesAt () t := by
  unfold ow Dat.owesAt Pipeline.owesWithin Dat.bound; rw [h]
  iintro ⟨%W, HO⟩; iexists W; isplitr; · ipureintro; exact fun _ _ => Or.inl trivial
  iexact HO
/-- What the region states about what is owed, as an amount. -/
theorem ow_elim (c : Dev nD) (t : Fin (cfg0.N + 1)) (O : CellTallies nD τ sig Unit) (h : (dat0 m c).owed t = O) :
    ((dat0 m c).owesAt () t : sProp 𝕄) ⊢ ow c O := by
  unfold ow Dat.owesAt Pipeline.owesWithin; rw [h]
  iintro ⟨%W, -, HO⟩; iexists W; iexact HO

/-! ## The body obligation -/

/-- A whole buffer that holds named contents. -/
def stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

/-- What the body finds. -/
def bodyPre (c : Dev nD) : sProp 𝕄 :=
  iprop(Φ₀ m c ∗ (dat0 m c).owesAt () t0_0.castSucc
    ∗ (∃ d, stg c cc0_stg0_0 ((dat0 m c).before (0 : Fin 3) t0_0 d))
    ∗ (∃ d, stg c cc0_stg1_0 ((dat0 m c).before (1 : Fin 3) t0_0 d))
    ∗ (∃ d, stg c cc0_stg2_0 ((dat0 m c).before (2 : Fin 3) t0_0 d)))

/-- What the body leaves. -/
def bodyPost (c : Dev nD) : sProp 𝕄 :=
  iprop(Φ₁ m c ∗ (dat0 m c).owesAt () t0_0.succ
    ∗ stg c cc0_stg0_0 ((Dm m).x c) ∗ stg c cc0_stg1_0 ((Dm m).p c) ∗ stg c cc0_stg2_0 (out (Dm m) c))

set_option maxRecDepth 4000 in
/-- The four buffers of slots as the region holds them. -/
theorem full_eq (M : Ref sig .tc) (c : Dev nD) (f : M.ty.Contents (Elt F)) :
    ((Memref.whole M).view.loc (c : Thread nD τ) ↦[(Memref.whole M).view.set]{fullShare} f : sProp 𝕄) = (((c : Thread nD τ).loc M) ↦{fullShare} f) :=
  by simp only [Memref.view_whole, View.set_whole]

/-- Conjunctions may be regrouped. -/
theorem sep_assoc_eq (P Q R : sProp 𝕄) : iprop((P ∗ Q) ∗ R) = iprop(P ∗ Q ∗ R) :=
  Entails.antisymm BI.sep_assoc BI.sep_assoc'

/-- The three slots of a buffer. -/
def slots3 (M : Memref sig .tc .vmem S3x160x512 .bf16) (c : Dev nD) : sProp 𝕄 :=
  iprop(slotAny M 0 (in3 (k := 0) (by decide)) c ∗ slotAny M 1 (in3 (k := 1) (by decide)) c ∗ slotAny M 2 (in3 (k := 2) (by decide)) c)

/-- The three peers' barrier cells have reached round 0. -/
def rBs (c : Dev nD) : sProp 𝕄 := iprop(reached ER (bar (peer 1 c)) 0 ∗ reached ER (bar (peer 2 c)) 0 ∗ reached ER (bar (peer 3 c)) 0)

/-- All of a group's barrier cells are open. -/
theorem rBs_of (c : Dev nD) : (rB : sProp 𝕄) ⊢ rBs c := by
  unfold rBs
  iintro #H
  isplitr; · iapply (rB_at (F := F) (peer 1 c)); iexact H
  isplitr; · iapply (rB_at (F := F) (peer 2 c)); iexact H
  iapply (rB_at (F := F) (peer 3 c)); iexact H

/-- That the fourteen copy cells are open, one by one. -/
theorem rch_eq (c : Dev nD) : (bigSep Finset.univ fun i : Fin 14 => (reached ER (dc c (ownI i)) 0 : sProp 𝕄))
    = iprop(Rch c (fsI 0) ∗ Rch c (fsI 1) ∗ Rch c (fsI 2) ∗ Rch c (frI 0) ∗ Rch c (frI 1) ∗ Rch c (frI 2) ∗ Rch c (rsI 0) ∗ Rch c (rsI 1) ∗ Rch c (rsI 2) ∗ Rch c (rrI 0) ∗ Rch c (rrI 1) ∗ Rch c (rrI 2) ∗ Rch c (wI 0) ∗ Rch c (wI 1)) := bigSep_14 _
/-- The rounds of the fourteen copy cells, one by one. -/
theorem at_eq (c : Dev nD) (r : ℕ) : (bigSep Finset.univ fun i : Fin 14 => (atPos ER (dc c (ownI i)) r ∅ 0 : sProp 𝕄))
    = iprop(At c (fsI 0) r ∗ At c (fsI 1) r ∗ At c (fsI 2) r ∗ At c (frI 0) r ∗ At c (frI 1) r ∗ At c (frI 2) r ∗ At c (rsI 0) r ∗ At c (rsI 1) r ∗ At c (rsI 2) r ∗ At c (rrI 0) r ∗ At c (rrI 1) r ∗ At c (rrI 2) r ∗ At c (wI 0) r ∗ At c (wI 1) r) := bigSep_14 _

set_option maxHeartbeats 4000000 in
set_option maxRecDepth 65536 in
/-- The body's run, its many resources bundled. -/
theorem body_run_bundled (D : Data F) (K : GSem nD τ sig → ℕ) (c : Dev nD) {Q : PUnit → sProp (MT nD τ sig Unit (Elt F) ℕ UU ℕ)}
    (f : (cc0_stg2_0 : Ref sig .tc).ty.Contents (Elt F)) (f4 : (cc0_scratch4 : Ref sig .tc).ty.Contents (Elt F))
    (f5 : (cc0_scratch5 : Ref sig .tc).ty.Contents (Elt F)) :
    iprop(invs D K ∗ pt c main_arg2 (D.w1 c) ∗ pt c main_arg3 (D.w2 c) ∗ pt c cc0_stg0_0 (D.x c) ∗ pt c cc0_stg1_0 (D.p c)
        ∗ pt c cc0_stg2_0 f ∗ pt c cc0_scratch4 f4 ∗ pt c cc0_scratch5 f5
        ∗ slots3 sM c ∗ slots3 aM c ∗ slots3 oM c ∗ slots3 rM c ∗ ow c (OB0 c) ∗ levAts L lv ∗ tkB c ∗ rBs c ∗ tkD c
        ∗ (bigSep Finset.univ fun i : Fin 14 => reached ER (dc c (ownI i)) 0)
        ∗ (bigSep Finset.univ fun i : Fin 14 => atPos ER (dc c (ownI i)) 0 ∅ 0) ∗ atPos ER (bar c) 0 ∅ 0 ∗ crs c)
      ⊢ iprop(((pt c main_arg2 (D.w1 c) ∗ pt c main_arg3 (D.w2 c) ∗ pt c cc0_stg0_0 (D.x c) ∗ pt c cc0_stg1_0 (D.p c)
        ∗ pt c cc0_stg2_0 (out D c) ∗ pt c cc0_scratch4 (D.w1 c) ∗ pt c cc0_scratch5 (D.w2 c)
        ∗ slots3 sM c ∗ slots3 aM c ∗ slots3 oM c ∗ slots3 rM c ∗ ow c 0
        ∗ (bigSep Finset.univ fun i : Fin 14 => atPos ER (dc c (ownI i)) 1 ∅ 0) ∗ atPos ER (bar c) 1 ∅ 0) -∗ Q ⟨⟩)
        -∗ wp frame (wpE (defs₀ (F := F)) 𝒱₀ c none) Set.univ
          (cc0_body xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10) Q) := by
  rw [rch_eq, at_eq, at_eq]
  unfold slots3 rBs tkB tkD crs
  simp only [sep_assoc_eq]
  exact body_run D K c f f4 f5

/-- The six scratch buffers, each whole at some contents. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))

/-- The buffer of the rows to send parts into its three slots. -/
theorem split_s (c : Dev nD) (f : Buf (Elt F) ((c : Thread nD τ).loc cc0_scratch0)) :
    (((c : Thread nD τ).loc cc0_scratch0) ↦{fullShare} f : sProp 𝕄) ⊢ slots3 sM c := by
  rw [← full_eq cc0_scratch0 c f]
  exact slots_split sM c _ _ _ f
/-- The three slots make up the buffer of the rows to send again. -/
theorem merge_s (c : Dev nD) : slots3 sM c ⊢ (iprop(∃ f : Buf (Elt F) ((c : Thread nD τ).loc cc0_scratch0), ((c : Thread nD τ).loc cc0_scratch0) ↦{fullShare} f) : sProp 𝕄) := by
  unfold slots3
  refine (slots_merge sM c _ _ _).trans (exists_mono fun f => ?_)
  rw [← full_eq cc0_scratch0 c f]
/-- The buffer of the arriving rows parts into its three slots. -/
theorem split_a (c : Dev nD) (f : Buf (Elt F) ((c : Thread nD τ).loc cc0_scratch1)) :
    (((c : Thread nD τ).loc cc0_scratch1) ↦{fullShare} f : sProp 𝕄) ⊢ slots3 aM c := by
  rw [← full_eq cc0_scratch1 c f]
  exact slots_split aM c _ _ _ f
/-- The three slots make up the buffer of the arriving rows again. -/
theorem merge_a (c : Dev nD) : slots3 aM c ⊢ (iprop(∃ f : Buf (Elt F) ((c : Thread nD τ).loc cc0_scratch1), ((c : Thread nD τ).loc cc0_scratch1) ↦{fullShare} f) : sProp 𝕄) := by
  unfold slots3
  refine (slots_merge aM c _ _ _).trans (exists_mono fun f => ?_)
  rw [← full_eq cc0_scratch1 c f]
/-- The buffer of the results to return parts into its three slots. -/
theorem split_o (c : Dev nD) (f : Buf (Elt F) ((c : Thread nD τ).loc cc0_scratch2)) :
    (((c : Thread nD τ).loc cc0_scratch2) ↦{fullShare} f : sProp 𝕄) ⊢ slots3 oM c := by
  rw [← full_eq cc0_scratch2 c f]
  exact slots_split oM c _ _ _ f
/-- The three slots make up the buffer of the results to return again. -/
theorem merge_o (c : Dev nD) : slots3 oM c ⊢ (iprop(∃ f : Buf (Elt F) ((c : Thread nD τ).loc cc0_scratch2), ((c : Thread nD τ).loc cc0_scratch2) ↦{fullShare} f) : sProp 𝕄) := by
  unfold slots3
  refine (slots_merge oM c _ _ _).trans (exists_mono fun f => ?_)
  rw [← full_eq cc0_scratch2 c f]
/-- The buffer of the returned results parts into its three slots. -/
theorem split_r (c : Dev nD) (f : Buf (Elt F) ((c : Thread nD τ).loc cc0_scratch3)) :
    (((c : Thread nD τ).loc cc0_scratch3) ↦{fullShare} f : sProp 𝕄) ⊢ slots3 rM c := by
  rw [← full_eq cc0_scratch3 c f]
  exact slots_split rM c _ _ _ f
/-- The three slots make up the buffer of the returned results again. -/
theorem merge_r (c : Dev nD) : slots3 rM c ⊢ (iprop(∃ f : Buf (Elt F) ((c : Thread nD τ).loc cc0_scratch3), ((c : Thread nD τ).loc cc0_scratch3) ↦{fullShare} f) : sProp 𝕄) := by
  unfold slots3
  refine (slots_merge rM c _ _ _).trans (exists_mono fun f => ?_)
  rw [← full_eq cc0_scratch3 c f]

/-- The body on device c, from the region's ghost state and its buffers to its counters back at zero. -/
theorem body_core (D : Data F) (c : Dev nD) (fy : (cc0_stg2_0 : Ref sig .tc).ty.Contents (Elt F)) (Q : PUnit → sProp (MT nD τ sig Unit (Elt F) ℕ UU ℕ)) :
    iprop(Xk D c ∗ pt c main_arg2 (D.w1 c) ∗ pt c main_arg3 (D.w2 c) ∗ scr c ∗ ow c (OB0 c) ∗ pt c cc0_stg0_0 (D.x c) ∗ pt c cc0_stg1_0 (D.p c) ∗ pt c cc0_stg2_0 fy)
      ⊢ iprop(((semVal (bar c) 0 ∗ (bigSep Finset.univ fun i : Fin 14 => semVal (dc c (ownI i)) 0) ∗ pt c main_arg2 (D.w1 c) ∗ pt c main_arg3 (D.w2 c) ∗ scr c ∗ ow c 0
          ∗ pt c cc0_stg0_0 (D.x c) ∗ pt c cc0_stg1_0 (D.p c) ∗ pt c cc0_stg2_0 (out D c)) -∗ Q ⟨⟩)
        -∗ wp frame (wpE (defs₀ (F := F)) 𝒱₀ c none) Set.univ (cc0_body xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10) Q) := by
  unfold scr Xk
  iintro ⟨⟨%K, #HI, #HrB, HA, #HR, AB, TB, TD, CR, #Hlev⟩, HG1, HG2, ⟨⟨%f0, F0⟩, ⟨%f1, F1⟩, ⟨%f2, F2⟩, ⟨%f3, F3⟩, ⟨%f4, HW1⟩, ⟨%f5, HW2⟩⟩, HO, HX, HP, HY⟩ Hk
  ihave HW1 := (Entails.of_eq (full_eq cc0_scratch4 c f4).symm) $$ HW1
  ihave HW2 := (Entails.of_eq (full_eq cc0_scratch5 c f5).symm) $$ HW2
  ihave Ss := (split_s c f0) $$ F0
  ihave Sa := (split_a c f1) $$ F1
  ihave So := (split_o c f2) $$ F2
  ihave Sr := (split_r c f3) $$ F3
  iapply (wp_fupd frame _ _ _ _)
  iapply (body_run_bundled D K c (Q := fun a => iprop(|={Set.univ}=> Q a)) fy f4 f5) $$ [HG1 HG2 HX HP HY HW1 HW2 Ss Sa So Sr HO TB TD HA AB CR]
  · isplitr; · iexact HI
    isplitl [HG1]; · iexact HG1
    isplitl [HG2]; · iexact HG2
    isplitl [HX]; · iexact HX
    isplitl [HP]; · iexact HP
    isplitl [HY]; · iexact HY
    isplitl [HW1]; · iexact HW1
    isplitl [HW2]; · iexact HW2
    isplitl [Ss]; · iexact Ss
    isplitl [Sa]; · iexact Sa
    isplitl [So]; · iexact So
    isplitl [Sr]; · iexact Sr
    isplitl [HO]; · iexact HO
    isplitr; · iexact Hlev
    isplitl [TB]; · iexact TB
    isplitr; · iapply (rBs_of (F := F) c); iexact HrB
    isplitl [TD]; · iexact TD
    isplitr; · iexact HR
    isplitl [HA]; · iexact HA
    isplitl [AB]; · iexact AB
    iexact CR
  iintro ⟨HG1, HG2, HX, HP, HY, HW1, HW2, Ss, Sa, So, Sr, HO, HA, AB⟩
  imod (close_cells D K c) $$ [HA] with Hsem
  · isplitr; · iexact HI
    iexact HA
  imod (close_bar D K c) $$ [AB] with Hb
  · isplitr; · iexact HI
    iexact AB
  ihave Fs := (merge_s (F := F) c) $$ Ss
  ihave Fa := (merge_a (F := F) c) $$ Sa
  ihave Fo := (merge_o (F := F) c) $$ So
  ihave Fr := (merge_r (F := F) c) $$ Sr
  imodintro
  iapply Hk
  isplitl [Hb]; · iexact Hb
  isplitl [Hsem]; · iexact Hsem
  isplitl [HG1]; · iexact HG1
  isplitl [HG2]; · iexact HG2
  isplitr [HX HP HY HO]
  · isplitl [Fs]; · iexact Fs
    isplitl [Fa]; · iexact Fa
    isplitl [Fo]; · iexact Fo
    isplitl [Fr]; · iexact Fr
    isplitl [HW1]; · iexists D.w1 c; iapply (Entails.of_eq (full_eq cc0_scratch4 c (D.w1 c))); iexact HW1
    iexists D.w2 c; iapply (Entails.of_eq (full_eq cc0_scratch5 c (D.w2 c))); iexact HW2
  isplitl [HO]; · iexact HO
  isplitl [HX]; · iexact HX
  isplitl [HP]; · iexact HP
  iexact HY

/-- The scratch memory of a device, buffer by buffer. -/
theorem scr_eq (c : Dev nD) : (Pipeline.scopedRest spec0 c : sProp 𝕄) = scr c := scopedRest0_eq c

/-- The body, from what the region gives it to what the region asks. -/
theorem body_at (c : Dev nD) : bodyPre m c ⊢ wp frame (wpE (defs₀ (F := F)) 𝒱₀ c none) Set.univ
    (cc0_body xM (Memref.isWhole_whole _) g1M (Memref.isWhole_whole _) g2M (Memref.isWhole_whole _) pM (Memref.isWhole_whole _) yM (Memref.isWhole_whole _) sM (Memref.isWhole_whole _) aM (Memref.isWhole_whole _) oM (Memref.isWhole_whole _) rM (Memref.isWhole_whole _) w1M (Memref.isWhole_whole _) w2M (Memref.isWhole_whole _) cc0_scratch6 cc0_scratch7 cc0_scratch8 cc0_scratch9 cc0_scratch10) (fun _ => bodyPost m c) := by
  unfold bodyPre Φ₀ stg
  rw [scr_eq]
  iintro ⟨⟨HXk, HG1, HG2, Hscr, Hreg⟩, HO', ⟨%d0, ⟨%fx, %ex, HX⟩⟩, ⟨%d1, ⟨%fp, %ep, HP⟩⟩, ⟨%d2, ⟨%fy, -, HY⟩⟩⟩
  ihave HO := (ow_elim m c _ _ (owed_first m c)) $$ HO'
  obtain rfl : fx = (Dm m).x c := ex.trans (before_0 m c t0_0 d0)
  obtain rfl : fp = (Dm m).p c := ep.trans (before_1 m c t0_0 d1)
  ihave HX := (Entails.of_eq (full_eq cc0_stg0_0 c ((Dm m).x c)).symm) $$ HX
  ihave HP := (Entails.of_eq (full_eq cc0_stg1_0 c ((Dm m).p c)).symm) $$ HP
  ihave HY := (Entails.of_eq (full_eq cc0_stg2_0 c fy).symm) $$ HY
  iapply (body_core (Dm m) c fy (fun _ => bodyPost m c)) $$ [HXk HG1 HG2 Hscr HO HX HP HY]
  · isplitl [HXk]; · iexact HXk
    isplitl [HG1]; · iexact HG1
    isplitl [HG2]; · iexact HG2
    isplitl [Hscr]; · iexact Hscr
    isplitl [HO]; · iexact HO
    isplitl [HX]; · iexact HX
    isplitl [HP]; · iexact HP
    iexact HY
  iintro ⟨Hb, Hsem, HG1, HG2, Hscr, HO, HX, HP, HY⟩
  unfold bodyPost Φ₁ stg
  rw [scr_eq, ownSems_eq]
  isplitr [HX HP HY HO]
  · isplitl [Hb]; · iexact Hb
    isplitl [Hsem]; · iexact Hsem
    isplitl [HG1]; · iexact HG1
    isplitl [HG2]; · iexact HG2
    isplitl [Hscr]; · iexact Hscr
    iexact Hreg
  isplitl [HO]; · iapply (ow_intro m c _ _ (owed_last m c)); iexact HO
  isplitl [HX]
  · iexists _; isplitr; · (ipureintro; rfl)
    iapply (Entails.of_eq (full_eq cc0_stg0_0 c ((Dm m).x c))); iexact HX
  isplitl [HP]
  · iexists _; isplitr; · (ipureintro; rfl)
    iapply (Entails.of_eq (full_eq cc0_stg1_0 c ((Dm m).p c))); iexact HP
  iexists _; isplitr; · (ipureintro; rfl)
  iapply (Entails.of_eq (full_eq cc0_stg2_0 c (out (Dm m) c))); iexact HY

set_option maxRecDepth 4000 in
/-- The body obligation. -/
theorem body (c : Dev nD) : BodyObligation (dat0 m c) (defs₀ (F := F)) 𝒱₀ () Set.univ := fun t => by
  rw [fin_N0 t, bigSep_W0, bigSep_W0]
  simp only [owns_whole_eq]
  rw [Φ_first, Φ_last]
  exact body_at m c

end Cert.KernelIdeal.Talk

end
-- ==== Proof.Run.lean ====
/-
  The launch: the ghost state dealt to the devices, the region's record, and the run of the whole program.
-/
module

public import proofs.«01_k».proof.Proof.Region
public import Idealize.ShloMosaic.Lib.Pipeline.FrameTail

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The buffers around the region -/

/-- Each device's buffers at launch, when the region starts, and when it ends. -/
def V₀ (c : Dev nD) : Valuation τ sig (Elt F) := fun b => m (c, b)
/-- The buffers of c after the operations before the launch. -/
def V₁ (c : Dev nD) : Valuation τ sig (Elt F) := StableHlo.after hostOps0 (V₀ m c)
/-- The buffers of c after the launch: the result has been written. -/
def V₂ (c : Dev nD) : Valuation τ sig (Elt F) := Function.update (V₁ m c) (Proc.devRef .tc main_v33) (out (Dm m) c)

/-- After the launch the result buffer holds the result. -/
theorem V₂_out (c : Dev nD) : V₂ m c (Proc.devRef .tc main_v33) = out (Dm m) c := Function.update_self _ _ _
/-- The launch changes no other buffer. -/
theorem V₂_of_ne (c : Dev nD) (b : DevRef τ sig) (h : b ≠ Proc.devRef .tc main_v33) : V₂ m c b = V₁ m c b := Function.update_of_ne h _ _

/-- The buffers the body addresses itself. -/
def Hs : Finset (DevRef τ sig) := {Proc.devRef .tc main_arg2, Proc.devRef .tc main_arg3}
/-- The unscoped buffers that no window names. -/
def Sr : Finset (DevRef τ sig) := Pipeline.ucRefs τ sig \ Pipeline.arrRefs spec0

/-- The arrays of the launch's windows. -/
theorem arrRefs_eq : (Pipeline.arrRefs spec0 : Finset (DevRef τ sig)) = {Proc.devRef .tc main_arg0, Proc.devRef .tc main_v32, Proc.devRef .tc main_v33} := by
  decide +kernel

/-- The weights are among the buffers that the launch holds beside its windows. -/
theorem Hs_sub : Hs ⊆ Sr := by
  intro b hb
  unfold Hs at hb
  rw [Finset.mem_insert, Finset.mem_singleton] at hb
  refine Finset.mem_sdiff.mpr ?_
  rcases hb with rfl | rfl
  · exact ⟨Pipeline.devRef_mem_ucRefs rfl, by rw [arrRefs_eq]; decide⟩
  · exact ⟨Pipeline.devRef_mem_ucRefs rfl, by rw [arrRefs_eq]; decide⟩

/-- The arrays of the windows are buffers of the program. -/
theorem arr_sub : (Pipeline.arrRefs spec0 : Finset (DevRef τ sig)) ⊆ Pipeline.ucRefs τ sig :=
  Pipeline.arrRefs_sub_ucRefs spec0 (fun | 0 => rfl | 1 => rfl | 2 => rfl | ⟨_ + 3, h⟩ => absurd h (Nat.not_lt.2 (Nat.le_add_left _ _)))

/-- Holding the weights, array by array. -/
theorem held_Hs (c : Dev nD) (W : Valuation τ sig (Elt F)) : (StableHlo.held (c.tc : Thread nD τ) Hs W : sProp 𝕄)
    = iprop(pt c main_arg2 (W (Proc.devRef .tc main_arg2)) ∗ pt c main_arg3 (W (Proc.devRef .tc main_arg3))) := by
  unfold StableHlo.held
  simp only [full_eq]
  rw [bigSep_eq_bigSepL_of_eq [Proc.devRef .tc main_arg2, Proc.devRef .tc main_arg3] (by decide) (by decide)]
  rfl

/-! ## The region's record -/

/-- The launch has an admissible grid. -/
abbrev adm : (p : Fin 1) → (pcfgs (F := F) p).Adm := fun p => (cfgs p).toPCfg_adm
/-- The data of the one launch. -/
def pdats : (p : Fin 1) → (c : Dev nD) → Dat τ (Elt F) Unit ℕ UU ℕ (Pipeline.pin (pcfgs (F := F)) adm p) c := fun _ c => dat0 m c

/-- All that is owed at the start is at level 1 and more. -/
theorem above_OB0 (c : Dev nD) : Above 0 (OB0 c) := by
  have hb (k : ℕ) : Above 0 (tallyAt (bar (peer k c)) () 1) := Above.tally _ _ _ (Nat.zero_lt_one)
  unfold OB0 OB1 OB2
  exact (((above_OF0 c (by decide)).add (hb 3)).add (hb 2)).add (hb 1)

/-- What is owed at the start, as the launch states it. -/
theorem owed_zero (c : Dev nD) : (pdats m 0 c).owed 0 = 0 + OB0 c := (owed_first m c).trans (zero_add _).symm
/-- Nothing is owed at the end, as the launch states it. -/
theorem owed_end (c : Dev nD) : (pdats m 0 c).owed (Fin.last _) = 0 := owed_last m c

/-- Everything owed at any point is owed to a cell with a level. -/
theorem cutD (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then OB0 c else 0 := rfl
  rw [e] at h
  split at h
  · exact above_OB0 c g i h
  · exact absurd h (Nat.lt_irrefl 0)

/-- What the launch holds at its start gives what the body is given. -/
theorem hin (c : Dev nD) : iprop(Pipeline.scopedRest (Pipeline.pin (pcfgs (F := F)) adm 0).spec c ∗ (∃ r, prngReg c r)
      ∗ StableHlo.held (c.tc : Thread nD τ) Hs (V₁ m c) ∗ Xk (Dm m) c)
    ⊢ (pdats m 0 c).Φ 0 := by
  rw [show (pdats m 0 c).Φ 0 = Φ₀ m c from Φ_first m c, held_Hs]
  unfold Φ₀
  iintro ⟨Hs, Hp, ⟨H2, H3⟩, HX⟩
  isplitl [HX]; · iexact HX
  isplitl [H2]; · iexact H2
  isplitl [H3]; · iexact H3
  isplitl [Hs]; · iexact Hs
  iexact Hp

/-- The first weights are not the result. -/
theorem ne_arg2 : (Proc.devRef .tc main_arg2 : DevRef τ sig) ≠ Proc.devRef .tc main_v33 := by decide
/-- The second weights are not the result. -/
theorem ne_arg3 : (Proc.devRef .tc main_arg3 : DevRef τ sig) ≠ Proc.devRef .tc main_v33 := by decide

/-- What the body gives back gives what the launch holds at its end. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c)
      ∗ Pipeline.ownSems0 osem c ∗ semVal (bar c) 0) := by
  rw [show (pdats m 0 c).Φ (Fin.last _) = Φ₁ m c from Φ_last m c, held_Hs, V₂_of_ne m c _ ne_arg2, V₂_of_ne m c _ ne_arg3]
  unfold Φ₁
  iintro ⟨Hb, Ho, H2, H3, Hs, Hp⟩
  isplitl [Hs]; · iexact Hs
  isplitl [Hp]; · iexact Hp
  isplitl [H2 H3]
  · isplitl [H2]; · iexact H2
    iexact H3
  isplitl [Ho]; · iexact Ho
  iexact Hb

/-- After the region the result array holds what the body left. -/
theorem arr_out (c : Dev nD) : (dat0 m c).arrAt 2 cfg0.N = out (Dm m) c :=
  (dat0 m c).arrAt_eq_of_after_last 2 t0_0 (by decide +kernel) (out (Dm m) c) (fun _ => rfl)

/-- At the start the windows' arrays are as the host left them. -/
theorem arr_start (c : Dev nD) (w : Fin 3) : (dat0 m c).arrAt w 0 = V₁ m c (Proc.devRef .tc (Pipeline.arrRef spec0 w)) := rfl

/-- At the end they are as the launch leaves them. -/
theorem arr_end (c : Dev nD) : (w : Fin 3) → (dat0 m c).arrAt w cfg0.N = V₂ m c (Proc.devRef .tc (Pipeline.arrRef spec0 w))
  | 0 => ((dat0 m c).arrAt_in 0 rfl _).trans (V₂_of_ne m c (Proc.devRef .tc main_arg0) (by decide)).symm
  | 1 => ((dat0 m c).arrAt_in 1 rfl _).trans (V₂_of_ne m c (Proc.devRef .tc main_v32) (by decide)).symm
  | 2 => (arr_out m c).trans (V₂_out m c).symm
  | ⟨_ + 3, h⟩ => absurd h (Nat.not_lt.2 (Nat.le_add_left _ _))

/-- Every window has its array whole. -/
theorem share_full (c : Dev nD) (w : Fin 3) : (dat0 m c).share w = fullShare := by unfold Dat.share; split <;> rfl

/-- Buffers outside the launch are the same before and after. -/
theorem rest_same (c : Dev nD) : ∀ b ∈ Sr \ Hs, V₂ m c b = V₁ m c b := fun b hb => V₂_of_ne m c b (by
  rintro rfl
  refine (Finset.mem_sdiff.mp (Finset.mem_sdiff.mp hb).1).2 ?_
  rw [arrRefs_eq]; decide)

/-- The windows' own copies are at level 0. -/
theorem stage_lv (c : Dev nD) : (w : Fin 3) → (s : Fin ((cfg0.win w).nbuf)) → lv ((c : Thread nD τ), .dma ((cfg0.win w).sem s)) () ≤ 0
  | 0, _ => Nat.le_refl 0
  | 1, _ => Nat.le_refl 0
  | 2, _ => Nat.le_refl 0
  | ⟨_ + 3, h⟩, _ => absurd h (Nat.not_lt.2 (Nat.le_add_left _ _))

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The region. -/
def reg : ℝ𝕊 0 :=
  Pipeline.RegionSeg.ofTalk (pcfgs (F := F)) adm (pdats m) () defs₀ 𝒱₀ L lv 0 osem osem_ok
    Hs Sr Hs_sub launch0.toP rfl (fun c => (body m c).loose)
    (fun _ => 0) OB0 (owed_zero m) (owed_end m) (fun _ => rfl) (share_full m)
    (V₁ m) (V₂ m) (rest_same m)
    (Tk (Dm m)) (fun c => semVal (bar c) 0) (Xk (Dm m)) (fun c => semVal (bar c) 0) (hopen (Dm m)) (hin m) (hout m)
    (fun c => by iintro H; imodintro; iexact H)
    (fun _ => 0)
    ⟨fun c w s => by rw [L_tc]; exact Finset.mem_singleton_self _, stage_lv, cutD m⟩
    (fun _ => iprop(emp))
    (arr_start m) (arr_end m)

/-- What rides beside the buffers from launch to the region. -/
def R (c : Dev nD) : sProp 𝕄 := iprop(Tk (Dm m) c ∗ (∃ r, prngReg c r) ∗ ∃ W, owes (c : Thread nD τ) (OB0 c) W)

/-- The operations before the launch touch only the program's buffers. -/
theorem ops_sub : ∀ op ∈ (hostOps0 : List (HloOp τ sig (Elt F))), op.bufs ⊆ Pipeline.ucRefs τ sig := fun op h =>
  Pipeline.sub_ucRefs op ((List.forall_iff_forall_mem.mp hostOps0_sub) op h)

/-- The host operations before it. -/
def seg : ℍ := Pipeline.HostSeg.ofOps _ _ _ _ _ (Pipeline.ucRefs τ sig) hostOps0 ops_sub (List.forall_iff_forall_mem.mp hostOps0_fresh) (V₀ m) (R m)

/-- What the host operations leave is what the launch needs. -/
theorem reg_pre (c : Dev nD) : iprop(StableHlo.held (c.tc : Thread nD τ) (Pipeline.ucRefs τ sig) (V₁ m c) ∗ R m c) ⊢ (reg m).pre c := by
  show _ ⊢ iprop(StableHlo.held (c.tc : Thread nD τ) (Pipeline.arrRefs spec0) (V₁ m c) ∗ (∃ r, prngReg c r)
    ∗ (StableHlo.held (c.tc : Thread nD τ) Sr (V₁ m c) ∗ emp) ∗ Tk (Dm m) c ∗ ∃ Wd, owes (c : Thread nD τ) (0 + OB0 c) Wd)
  rw [zero_add, StableHlo.held_sub_split (c.tc : Thread nD τ) arr_sub (V₁ m c)]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the launch leaves is what the end needs. -/
theorem reg_post (c : Dev nD) : (reg m).post c
    ⊢ iprop(StableHlo.held (c.tc : Thread nD τ) (Pipeline.ucRefs τ sig) (V₂ m c) ∗ (semVal (bar c) 0 ∗ ∃ W, owes (c : Thread nD τ) (0 : CellTallies nD τ sig Unit) W)) := by
  show iprop(StableHlo.held (c.tc : Thread nD τ) (Pipeline.arrRefs spec0) (V₂ m c) ∗ (∃ r, prngReg c r)
    ∗ (StableHlo.held (c.tc : Thread nD τ) Sr (V₂ m c) ∗ emp) ∗ semVal (bar c) 0 ∗ ∃ Wd, owes (c : Thread nD τ) (0 : CellTallies nD τ sig Unit) Wd) ⊢ _
  rw [StableHlo.held_sub_split (c.tc : Thread nD τ) arr_sub (V₂ m c)]
  iintro ⟨Ha, -, ⟨Hr, -⟩, Hb, HO⟩
  isplitl [Ha Hr]
  · isplitl [Ha]; · iexact Ha
    iexact Hr
  isplitl [Hb]; · iexact Hb
  iexact HO

/-- The program as its two segments. -/
def segs : List (Pipeline.Seg (pcfgs (F := F)) adm (pdats m) () defs₀ 𝒱₀ L lv) := [.host (seg m), .region (reg m)]

/-! ## The tokens -/

/-- The rights to pay the barrier cells. -/
def barToks : Finset (GSem nD τ sig × ℕ × Fin 3) :=
  Finset.univ.map ⟨fun q : Dev nD × Fin 3 => (bar q.1, 0, q.2), fun a b h =>
    Prod.ext (Fin.ext (congrArg (fun t : GSem nD τ sig × ℕ × Fin 3 => t.1.1.1.val) h)) (congrArg (fun t : GSem nD τ sig × ℕ × Fin 3 => t.2.2) h)⟩
/-- The rights to pay the copy cells. -/
def ownToks : Finset (GSem nD τ sig × ℕ × Fin 3) :=
  Finset.univ.map ⟨fun q : Dev nD × Fin 14 => (ownEmb q, 0, 0), fun a b h => ownEmb.injective (congrArg (fun t : GSem nD τ sig × ℕ × Fin 3 => t.1) h)⟩
/-- All rights to pay. -/
def allToks : Finset (GSem nD τ sig × ℕ × Fin 3) := barToks ∪ ownToks

/-- A barrier cell is no copy cell. -/
theorem bar_ne (c c' : Dev nD) (i : DmaSem sig) : bar c ≠ dc c' i := fun h => by
  have h2 : (SemLoc.reg barrier0 : SemLoc sig) = .dma i := congrArg (fun g : GSem nD τ sig => g.2) h
  cases h2

/-- The two kinds of rights are apart. -/
theorem toks_disj : Disjoint barToks ownToks := by
  rw [Finset.disjoint_left]
  intro t h1 h2
  obtain ⟨a, -, rfl⟩ := Finset.mem_map.mp h1
  obtain ⟨b, -, h⟩ := Finset.mem_map.mp h2
  exact bar_ne a.1 b.1 (ownI b.2) (congrArg (fun t : GSem nD τ sig × ℕ × Fin 3 => t.1) h).symm

/-- The two kinds of cells are apart. -/
theorem cells_disj : Disjoint barCells ownCells := by
  rw [Finset.disjoint_left]
  intro t h1 h2
  obtain ⟨a, -, rfl⟩ := Finset.mem_map.mp h1
  obtain ⟨b, -, h⟩ := Finset.mem_map.mp h2
  exact bar_ne a b.1 (ownI b.2) h.symm

/-- Each device takes the rights to pay its peers' barrier cells. -/
theorem toks_bar : bigSep barToks (fun x => (dutyTok ER x.1 x.2.1 x.2.2 : sProp 𝕄)) ⊢ bigSep Finset.univ (tkB (F := F)) := by
  unfold barToks
  rw [bigSep_map, bigSep_univ_prod]
  have e3 (c : Dev nD) : bigSep Finset.univ (fun e : Fin 3 => (dutyTok ER (bar c) 0 e : sProp 𝕄))
      = iprop(dutyTok ER (bar c) 0 0 ∗ dutyTok ER (bar c) 0 1 ∗ dutyTok ER (bar c) 0 2) := Ring.bigSep_fin3 _
  refine Entails.of_eq ((bigSep_congr fun c _ => e3 c).trans ?_)
  unfold tkB
  rw [bigSep_sep', bigSep_sep', bigSep_sep', bigSep_sep',
    bigSep_univ_equiv (ring 1 (by decide)) (fun c : Dev nD => (dutyTok ER (bar c) 0 0 : sProp 𝕄)),
    bigSep_univ_equiv (ring 2 (by decide)) (fun c : Dev nD => (dutyTok ER (bar c) 0 1 : sProp 𝕄)),
    bigSep_univ_equiv (ring 3 (by decide)) (fun c : Dev nD => (dutyTok ER (bar c) 0 2 : sProp 𝕄))]
  rfl

/-- The rights a device uses, its own and its peers', in the order of use. -/
theorem toks_perm (c : Dev nD) : iprop(Tok c (fsI 0) ∗ Tok c (fsI 1) ∗ Tok c (fsI 2) ∗ Tok (peer 1 c) (frI 0) ∗ Tok (peer 2 c) (frI 1) ∗ Tok (peer 3 c) (frI 2) ∗ Tok c (rsI 0) ∗ Tok c (rsI 1) ∗ Tok c (rsI 2) ∗ Tok (peer 3 c) (rrI 0) ∗ Tok (peer 2 c) (rrI 1) ∗ Tok (peer 1 c) (rrI 2) ∗ Tok c (wI 0) ∗ Tok c (wI 1)) ⊢ (tkD c : sProp 𝕄) := by
  unfold tkD
  iintro ⟨Tfs0, Tfs1, Tfs2, Tfr0, Tfr1, Tfr2, Trs0, Trs1, Trs2, Trr0, Trr1, Trr2, Tw0, Tw1⟩
  isplitl [Tfs0]; · iexact Tfs0
  isplitl [Tfr0]; · iexact Tfr0
  isplitl [Trs0]; · iexact Trs0
  isplitl [Trr0]; · iexact Trr0
  isplitl [Tfs1]; · iexact Tfs1
  isplitl [Tfr1]; · iexact Tfr1
  isplitl [Trs1]; · iexact Trs1
  isplitl [Trr1]; · iexact Trr1
  isplitl [Tfs2]; · iexact Tfs2
  isplitl [Tfr2]; · iexact Tfr2
  isplitl [Trs2]; · iexact Trs2
  isplitl [Trr2]; · iexact Trr2
  isplitl [Tw0]; · iexact Tw0
  iexact Tw1

/-- Each device takes the rights to the copy cells it pays. -/
theorem toks_own : bigSep ownToks (fun x => (dutyTok ER x.1 x.2.1 x.2.2 : sProp 𝕄)) ⊢ bigSep Finset.univ (tkD (F := F)) := by
  unfold ownToks
  rw [bigSep_map, bigSep_univ_prod]
  have e14 (c : Dev nD) : bigSep Finset.univ (fun i : Fin 14 => (dutyTok ER (dc c (ownI i)) 0 0 : sProp 𝕄))
      = iprop(Tok c (fsI 0) ∗ Tok c (fsI 1) ∗ Tok c (fsI 2) ∗ Tok c (frI 0) ∗ Tok c (frI 1) ∗ Tok c (frI 2) ∗ Tok c (rsI 0) ∗ Tok c (rsI 1) ∗ Tok c (rsI 2) ∗ Tok c (rrI 0) ∗ Tok c (rrI 1) ∗ Tok c (rrI 2) ∗ Tok c (wI 0) ∗ Tok c (wI 1)) := bigSep_14 _
  refine (Entails.of_eq ((bigSep_congr fun c _ => e14 c).trans ?_)).trans (bigSep_mono fun c _ => toks_perm c)
  simp only [bigSep_sep']
  rw [bigSep_univ_equiv (ring 1 (by decide)) (fun c : Dev nD => (Tok c (frI 0) : sProp 𝕄)),
    bigSep_univ_equiv (ring 2 (by decide)) (fun c : Dev nD => (Tok c (frI 1) : sProp 𝕄)),
    bigSep_univ_equiv (ring 3 (by decide)) (fun c : Dev nD => (Tok c (frI 2) : sProp 𝕄)),
    bigSep_univ_equiv (ring 3 (by decide)) (fun c : Dev nD => (Tok c (rrI 0) : sProp 𝕄)),
    bigSep_univ_equiv (ring 2 (by decide)) (fun c : Dev nD => (Tok c (rrI 1) : sProp 𝕄)),
    bigSep_univ_equiv (ring 1 (by decide)) (fun c : Dev nD => (Tok c (rrI 2) : sProp 𝕄))]
  rfl

/-! ## The credits -/

/-- Summed over the devices, what all owe to the cell of a peer at a fixed distance is one payment for each device. -/
theorem owed_sum (k : ℕ) (hk : k ≤ 4) (sm sm' : SemLoc sig) (n : ℕ) (c : Dev nD) :
    ∑ d : Dev nD, (tallyAt (((peer k d : Dev nD) : Thread nD τ), sm) () n : CellTallies nD τ sig Unit) ((c : Thread nD τ), sm') () = if sm = sm' then n else 0 := by
  by_cases h : sm = sm'
  · subst h
    rw [if_pos rfl]
    refine (Finset.sum_congr rfl fun d _ => ?_).trans ((Finset.sum_ite_eq' Finset.univ (peer (4 - k) c) fun _ => n).trans (if_pos (Finset.mem_univ _)))
    rw [tallyAt_apply]
    by_cases hd : d = peer (4 - k) c
    · subst hd
      rw [if_pos rfl, if_pos ⟨by rw [peer_back (by omega) c], rfl⟩]
    · rw [if_neg hd, if_neg]
      rintro ⟨h1, -⟩
      have h2 : c = peer k d := Fin.ext (congrArg (fun g : GSem nD τ sig => g.1.1.val) h1)
      exact hd (by rw [h2, peer_back (by omega) d])
  · rw [if_neg h]
    refine Finset.sum_eq_zero fun d _ => ?_
    rw [tallyAt_apply, if_neg]
    rintro ⟨h1, -⟩
    exact h (congrArg (fun g : GSem nD τ sig => g.2) h1).symm

/-- What all devices together owe to a cell. -/
theorem owed_all (sm : SemLoc sig) (c : Dev nD) : ∑ d : Dev nD, OB0 d ((c : Thread nD τ), sm) ()
    = (if SemLoc.dma (rrI 2) = sm then N else 0) + (if SemLoc.dma (rrI 1) = sm then N else 0) + (if SemLoc.dma (rrI 0) = sm then N else 0)
      + (if SemLoc.dma (frI 2) = sm then N else 0) + (if SemLoc.dma (frI 1) = sm then N else 0) + (if SemLoc.dma (frI 0) = sm then N else 0)
      + (if SemLoc.reg barrier0 = sm then 1 else 0) + (if SemLoc.reg barrier0 = sm then 1 else 0) + (if SemLoc.reg barrier0 = sm then 1 else 0) := by
  unfold OB0 OB1 OB2 OF0 OF1 OF2 OR0 OR1 OR2
  simp only [Pi.add_apply, Finsupp.add_apply, Finset.sum_add_distrib]
  rw [owed_sum 1 (by decide) (.dma (rrI 2)) sm N c, owed_sum 2 (by decide) (.dma (rrI 1)) sm N c, owed_sum 3 (by decide) (.dma (rrI 0)) sm N c,
    owed_sum 3 (by decide) (.dma (frI 2)) sm N c, owed_sum 2 (by decide) (.dma (frI 1)) sm N c, owed_sum 1 (by decide) (.dma (frI 0)) sm N c,
    owed_sum 3 (by decide) (.reg barrier0) sm 1 c, owed_sum 2 (by decide) (.reg barrier0) sm 1 c, owed_sum 1 (by decide) (.reg barrier0) sm 1 c]

/-- A cell's total debt is the tally the launch needs. -/
theorem launch_at (sm : SemLoc sig) (n : ℕ) (c : Dev nD) (h : ∑ d : Dev nD, OB0 d ((c : Thread nD τ), sm) () = n) :
    tallyOn ((c : Thread nD τ), sm) (launchCredit (Pipeline.owing OB0) 0 ((c : Thread nD τ), sm)) = (tallyAt ((c : Thread nD τ), sm) () n : CellTallies nD τ sig Unit) := by
  unfold tallyAt
  refine congrArg _ (Finsupp.ext fun u => ?_)
  cases u
  rw [Pipeline.launchCredit_owing, Finsupp.single_eq_same, h]

/-- The cells that other devices pay. -/
def paid : List (SemLoc sig) := [.reg barrier0, .dma (frI 0), .dma (frI 1), .dma (frI 2), .dma (rrI 0), .dma (rrI 1), .dma (rrI 2)]
/-- They are listed once each. -/
theorem paid_nodup : paid.Nodup := by decide

/-- What the others owe a device at launch: three barrier units, and one copy's bytes at each cell it receives on. -/
theorem creds (c : Dev nD) : (Pipeline.launchCred OB0 c : sProp 𝕄) ⊢ crs c := by
  unfold Pipeline.launchCred
  have hs : (bigSep Finset.univ (fun sm : SemLoc sig => cred (tallyOn ((c : Thread nD τ), sm) (launchCredit (Pipeline.owing OB0) 0 ((c : Thread nD τ), sm)))) : sProp 𝕄)
      ⊢ bigSep paid.toFinset (fun sm : SemLoc sig => cred (tallyOn ((c : Thread nD τ), sm) (launchCredit (Pipeline.owing OB0) 0 ((c : Thread nD τ), sm)))) :=
    BI.bigSep_subset (Finset.subset_univ paid.toFinset)
  refine hs.trans (Entails.of_eq ?_)
  rw [bigSep_eq_bigSepL_of_eq paid rfl paid_nodup]
  show iprop(cred (tallyOn (bar c) (launchCredit (Pipeline.owing OB0) 0 (bar c)))
    ∗ cred (tallyOn (dc c (frI 0)) (launchCredit (Pipeline.owing OB0) 0 (dc c (frI 0)))) ∗ cred (tallyOn (dc c (frI 1)) (launchCredit (Pipeline.owing OB0) 0 (dc c (frI 1))))
    ∗ cred (tallyOn (dc c (frI 2)) (launchCredit (Pipeline.owing OB0) 0 (dc c (frI 2)))) ∗ cred (tallyOn (dc c (rrI 0)) (launchCredit (Pipeline.owing OB0) 0 (dc c (rrI 0))))
    ∗ cred (tallyOn (dc c (rrI 1)) (launchCredit (Pipeline.owing OB0) 0 (dc c (rrI 1)))) ∗ cred (tallyOn (dc c (rrI 2)) (launchCredit (Pipeline.owing OB0) 0 (dc c (rrI 2))))) = _
  rw [launch_at (.reg barrier0) 3 c (owed_all _ c), launch_at (.dma (frI 0)) N c ((owed_all _ c).trans (by simp [frI, rrI])), launch_at (.dma (frI 1)) N c ((owed_all _ c).trans (by simp [frI, rrI])),
    launch_at (.dma (frI 2)) N c ((owed_all _ c).trans (by simp [frI, rrI])), launch_at (.dma (rrI 0)) N c ((owed_all _ c).trans (by simp [frI, rrI])),
    launch_at (.dma (rrI 1)) N c ((owed_all _ c).trans (by simp [frI, rrI])), launch_at (.dma (rrI 2)) N c ((owed_all _ c).trans (by simp [frI, rrI]))]
  rfl

/-! ## The launch -/

/-- The ghost state at launch. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource dealt whole to one device. -/
def onOne (c₀ : Dev nD) (X : sProp 𝕄) (c : Dev nD) : sProp 𝕄 := if c = c₀ then X else iprop(emp)
/-- A resource given to one device only is that resource. -/
theorem bigSep_onOne (c₀ : Dev nD) (X : sProp 𝕄) : bigSep Finset.univ (onOne c₀ X) = X := by
  have h (c : Dev nD) (hc : c ∈ Finset.univ.erase c₀) : onOne c₀ X c = (BI.emp : sProp 𝕄) := if_neg (Finset.ne_of_mem_erase hc)
  rw [bigSep_univ_at _ c₀, bigSep_congr h, BI.bigSep_emp_const, show onOne c₀ X c₀ = X from if_pos rfl]
  exact BI.equiv_iff.mp sep_emp

/-- The ghost state of the rounds, in one hand. -/
def G : Dev nD → sProp 𝕄 := onOne 0 (BI.own (ER (launchOf barCells ownCells allToks)))

/-- The only counter not in scratch is the barrier's. -/
theorem sems_launch (c : Dev nD) : (unscopedSems0 c : sProp 𝕄) = semVal (bar c) 0 := by
  unfold unscopedSems0
  rw [bigSep_eq_bigSepL_of_eq [SemLoc.reg barrier0] (by decide) (by decide)]
  rfl

/-- What of a device's launch holdings is not the protocol's ghost state. -/
def bundle (c : Dev nD) : sProp 𝕄 :=
  iprop(StableHlo.held (c.tc : Thread nD τ) (Pipeline.ucRefs τ sig) (V₀ m c) ∗ crs c ∗ owes (c : Thread nD τ) (OB0 c) ∅ ∗ ∃ r, prngReg c r)
/-- A device's own share of the ghost state. -/
def linear (c : Dev nD) : sProp 𝕄 :=
  iprop(atPos ER (bar c) 0 ∅ 0 ∗ (bigSep Finset.univ fun i : Fin 14 => openTok ER (dc c (ownI i))) ∗ tkB c ∗ tkD c)
/-- What all devices share. -/
def records (K : GSem nD τ sig → ℕ) : sProp 𝕄 := iprop(invs (Dm m) K ∗ rB)

/-- What is shared can be kept. -/
instance records_persistent (K : GSem nD τ sig → ℕ) : BI.Persistent (records m K) := by unfold records invs; infer_instance

/-- A device's share and what is shared are what its run starts from. -/
theorem start_intro (K : GSem nD τ sig → ℕ) (c : Dev nD) : iprop(records m K ∗ (linear c ∗ bundle m c))
    ⊢ iprop(StableHlo.held (c.tc : Thread nD τ) (Pipeline.ucRefs τ sig) (V₀ m c) ∗ R m c) := by
  unfold records linear bundle R Tk
  iintro ⟨⟨#HI, #HR⟩, ⟨Hat, Hop, HB, HD⟩, Hh, Hc, HO, Hp⟩
  isplitl [Hh]; · iexact Hh
  isplitr [HO Hp]
  · iexists K
    isplitr; · iexact HI
    isplitr; · iexact HR
    isplitl [Hop]; · iexact Hop
    isplitl [Hat]; · iexact Hat
    isplitl [HB]; · iexact HB
    isplitl [HD]; · iexact HD
    iexact Hc
  isplitl [Hp]; · iexact Hp
  iexists ∅; iexact HO

/-- What the launch hands a device. -/
theorem launch_core (c : Dev nD) : iprop(unscopedBufs c (fun b => m ((c : Thread nD τ).loc b)) ∗ unscopedSems0 c
        ∗ owes (c : Thread nD τ) (OB0 c) ∅ ∗ Pipeline.launchCred OB0 c ∗ prngReg c (ρ c) ∗ G c)
      ⊢ (iprop(bundle m c ∗ (semVal (bar c) 0 ∗ G c)) : sProp 𝕄) := by
  rw [show unscopedBufs c (fun b => m ((c : Thread nD τ).loc b)) = StableHlo.held (c.tc : Thread nD τ) (Pipeline.ucRefs τ sig) (V₀ m c) from Pipeline.unscopedBufs_held c (V₀ m c),
    sems_launch]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

/-- The barrier counters, device by device. -/
theorem bars_vals : bigSep Finset.univ (fun c : Dev nD => (semVal (bar c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
/-- The barrier rounds, device by device. -/
theorem bars_at : bigSep barCells (fun g => (atPos ER g 0 ∅ 0 : sProp 𝕄)) ⊢ bigSep Finset.univ (fun c : Dev nD => (atPos ER (bar c) 0 ∅ 0 : sProp 𝕄)) :=
  Entails.of_eq (bigSep_map (s := Finset.univ) barEmb (Φ := fun g : GSem nD τ sig => (atPos ER g 0 ∅ 0 : sProp 𝕄)))
/-- The copy cells, device by device. -/
theorem opens : bigSep ownCells (fun g => (openTok ER g : sProp 𝕄))
    ⊢ bigSep Finset.univ (fun c : Dev nD => bigSep Finset.univ fun i : Fin 14 => (openTok ER (dc c (ownI i)) : sProp 𝕄)) :=
  Entails.of_eq (by rw [show (ownCells : Finset (GSem nD τ sig)) = Finset.univ.map ownEmb from rfl, bigSep_map, bigSep_univ_prod]; rfl)

/-- The launch: every cell's invariant is set up and each device gets its share. -/
theorem init :
    iprop((bigSep Finset.univ fun c : Dev nD => iprop(unscopedBufs c (fun b => m ((c : Thread nD τ).loc b)) ∗ unscopedSems0 c
          ∗ owes (c : Thread nD τ) (OB0 c) ∅ ∗ Pipeline.launchCred OB0 c ∗ prngReg c (ρ c) ∗ G c)) ∗ levAts L lv)
      ⊢ (|={Set.univ}=> bigSep Finset.univ (fun c => iprop(StableHlo.held (c.tc : Thread nD τ) (Pipeline.ucRefs τ sig) (V₀ m c) ∗ R m c)) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (OB0 c) ∅ ∗ Pipeline.launchCred OB0 c ∗ prngReg c (ρ c) ∗ G c))
      ⊢ (bigSep Finset.univ fun c : Dev nD => iprop(bundle m c ∗ (semVal (bar c) 0 ∗ G c)) : sProp 𝕄) from bigSep_mono fun c _ => launch_core m ρ c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells ownCells allToks)) from
    Entails.of_eq (bigSep_onOne (F := F) 0 (BI.own (ER (launchOf barCells ownCells allToks))))) $$ HG
  imod (Rounds.fund_launch ER (talkRd (Dm m)) cells_disj (fun g _ h => h) allToks) $$ [Hv Hu] with ⟨%κ, -, #Hinv, #Hr, Hat, Hopen, Htok⟩
  · isplitl [Hv]
    · iapply bars_vals $$ Hv
    · iexact Hu
  imodintro
  iapply (bigSep_with_persistent (R := records m κ) (Φ := fun c => iprop(linear c ∗ bundle m c)) fun c _ => start_intro m κ c)
  isplitr
  · unfold records invs rB
    isplitr; · iexact Hinv
    iexact Hr
  iapply bigSep_pair
  isplitr [HB]
  · unfold linear
    iapply bigSep_pair; isplitl [Hat]; · iapply bars_at $$ Hat
    iapply bigSep_pair; isplitl [Hopen]; · iapply opens $$ Hopen
    ihave Ht := (show bigSep allToks (fun x => (dutyTok ER x.1 x.2.1 x.2.2 : sProp 𝕄))
      ⊢ iprop(bigSep barToks (fun x => (dutyTok ER x.1 x.2.1 x.2.2 : sProp 𝕄)) ∗ bigSep ownToks (fun x => (dutyTok ER x.1 x.2.1 x.2.2 : sProp 𝕄))) from
      Entails.of_eq (BI.bigSep_union toks_disj)) $$ Htok
    icases Ht with ⟨T1, T2⟩
    iapply bigSep_pair
    isplitl [T1]; · iapply toks_bar $$ T1
    iapply toks_own $$ T2
  · iexact HB

/-! ## The run -/

/-- What a device's run starts from. -/
abbrev T₀ (c : Dev nD) : sProp 𝕄 := iprop(StableHlo.held (c.tc : Thread nD τ) (Pipeline.ucRefs τ sig) (V₀ m c) ∗ R m c)
/-- What a device's run ends with. -/
abbrev Tₙ (c : Dev nD) : sProp 𝕄 := iprop(StableHlo.held (c.tc : Thread nD τ) (Pipeline.ucRefs τ sig) (V₂ m c) ∗ semVal (bar c) 0)

/-- The program is its two segments, the host operations and the launch. -/
theorem main_eq (c : Dev nD) : main (F := F) c = Pipeline.Seg.run (segs m) :=
  main_segs adm (pdats m) () 𝒱₀ L lv (seg m) (reg m) rfl c

/-- The barrier's counter is the only one outside scratch. -/
theorem unscoped_bar : ∀ sm : SemLoc sig, sm.isScoped .tc = false → sm = .reg barrier0 := by decide

/-- The buffers read at the end. -/
def ends : List (DevRef τ sig) := [Proc.devRef .tc main_arg0, Proc.devRef .tc main_arg1, Proc.devRef .tc main_arg2, Proc.devRef .tc main_arg3, Proc.devRef .tc main_v33]
/-- The buffers read at the end are buffers of the program. -/
theorem ends_sub : ends.toFinset ⊆ Pipeline.ucRefs τ sig := by
  intro b hb
  rw [List.mem_toFinset] at hb
  unfold ends at hb
  simp only [List.mem_cons, List.not_mem_nil, or_false] at hb
  rcases hb with rfl | rfl | rfl | rfl | rfl <;> exact Pipeline.devRef_mem_ucRefs rfl

/-- Holding them, buffer by buffer. -/
theorem held_ends (c : Dev nD) (W : Valuation τ sig (Elt F)) : (StableHlo.held (c.tc : Thread nD τ) ends.toFinset W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_v33) ↦{fullShare} W (Proc.devRef .tc main_v33))) := by
  unfold StableHlo.held
  rw [bigSep_eq_bigSepL_of_eq ends rfl (by decide)]
  rfl

/-- What the final state says of one device's buffers. -/
def Ends (c : Dev nD) (s : MemSt nD τ sig (Elt F)) : Prop :=
  s.mem ((c : Thread nD τ).loc main_arg0) = V₂ m c (Proc.devRef .tc main_arg0) ∧ s.mem ((c : Thread nD τ).loc main_arg1) = V₂ m c (Proc.devRef .tc main_arg1)
  ∧ s.mem ((c : Thread nD τ).loc main_arg2) = V₂ m c (Proc.devRef .tc main_arg2) ∧ s.mem ((c : Thread nD τ).loc main_arg3) = V₂ m c (Proc.devRef .tc main_arg3)
  ∧ s.mem ((c : Thread nD τ).loc main_v33) = V₂ m c (Proc.devRef .tc main_v33)

/-- After the launch argument 0 is as it was. -/
theorem V₂_arg0 (c : Dev nD) : V₂ m c (Proc.devRef .tc main_arg0) = m ((c : Thread nD τ).loc main_arg0) := (V₂_of_ne m c _ (by decide)).trans (V_main_arg0 m c)
/-- After the launch argument 1 is as it was. -/
theorem V₂_arg1 (c : Dev nD) : V₂ m c (Proc.devRef .tc main_arg1) = m ((c : Thread nD τ).loc main_arg1) := (V₂_of_ne m c _ (by decide)).trans (V_main_arg1 m c)
/-- After the launch argument 2 is as it was. -/
theorem V₂_arg2 (c : Dev nD) : V₂ m c (Proc.devRef .tc main_arg2) = m ((c : Thread nD τ).loc main_arg2) := (V₂_of_ne m c _ (by decide)).trans (V_main_arg2 m c)
/-- After the launch argument 3 is as it was. -/
theorem V₂_arg3 (c : Dev nD) : V₂ m c (Proc.devRef .tc main_arg3) = m ((c : Thread nD τ).loc main_arg3) := (V₂_of_ne m c _ (by decide)).trans (V_main_arg3 m c)

set_option backward.isDefEq.respectTransparency.types false in
/-- Every fair run of the program from zero counters ends; then on each device the four arguments are as before, the result is
    `out`, and every counter is zero. -/
theorem run_main : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v33) = out (Dm m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := OB0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onOne]; iexact HX)
    (T₀ := T₀ m) (Tₙ := Tₙ m)
    (hch := by
      refine ⟨fun c => .rfl, fun c => reg_pre m c, fun c => (reg_post m c).trans ?_⟩
      show iprop(StableHlo.held (c.tc : Thread nD τ) (Pipeline.ucRefs τ sig) (V₂ m c)
          ∗ (semVal (bar c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh]; · iexact Hh
        iexact Hb0
      · iexact HO)
    (hinit := init m ρ)
    (QY := fun c s => Ends m c s ∧ s.sem (bar c) = 0)
    (hfin := fun c s' => by
      dsimp only [Tₙ]
      rw [StableHlo.held_sub_split (c.tc : Thread nD τ) ends_sub (V₂ m c), held_ends]
      iintro ⟨⟨⟨⟨H0, H1, H2, H3, H4⟩, -⟩, Hb0⟩, HSI⟩
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4⟩, by simpa using hb⟩
      iexact HSI)
    (hQ := fun s h hs => ⟨fun c => by
        obtain ⟨⟨h0, h1, h2, h3, h4⟩, -⟩ := h c
        exact ⟨h0.trans (V₂_arg0 m c), h1.trans (V₂_arg1 m c), h2.trans (V₂_arg2 m c), h3.trans (V₂_arg3 m c), h4.trans (V₂_out m c)⟩,
      sem_eq_zero hs fun c sm hsm => by
        obtain rfl := unscoped_bar sm hsm
        exact (h c).2⟩)

end Cert.KernelIdeal.Talk

end
-- ==== Proof.Frames.lean ====
/-
  The frame claims of the two readings of the program and of the reference.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem
open Idealize.ShloMosaic.TcCoe

/-- The idealized program's run leaves its arguments and its counters as they were. -/
theorem frame_kernelIdeal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Talk.run_main (F := Ideal) m ρ)

/-- At any reading of the floats the program's run leaves its arguments and its counters as they were. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩)
    (Cert.KernelIdeal.Talk.run_main (F := F) m ρ)

/-- The two printed programs have the same launch body. -/
theorem body_same : @Cert.Kernel.cc0_body Bits _ _ = @Cert.KernelIdeal.cc0_body Bits _ _ := rfl

/-- So they have the same table of launch bodies. -/
theorem defs0_same : Cert.Kernel.defs₀ (F := Bits) = Cert.KernelIdeal.defs₀ (F := Bits) :=
  congrArg Defs.onTc (funext fun l => funext fun x => match l, x with
    | 0, (_, _) => rfl
    | ⟨_ + 1, h⟩, _ => absurd h (Nat.not_lt.2 (Nat.le_add_left _ _)))

/-- And the same table of functions. -/
theorem defs_same : Cert.Kernel.defs (F := Bits) = Cert.KernelIdeal.defs (F := Bits) :=
  congrArg (Pipeline.defs (Cert.KernelIdeal.pcfgs (F := Bits))) defs0_same

/-- And the same main. -/
theorem progs_same : Cert.Kernel.main (F := Bits) = Cert.KernelIdeal.main (F := Bits) := rfl

/-- The frame of `frame_any` for any table equal to the program's. -/
theorem frame_of (D : Defs Cert.KernelIdeal.nD Cert.KernelIdeal.τ Cert.KernelIdeal.sig (Elt Bits) (Pipeline.Sig Cert.KernelIdeal.Λ₀ (Fin 1) fun p => (Cert.KernelIdeal.pcfgs (F := Bits) p).Adm))
    (hD : D = Cert.KernelIdeal.defs (F := Bits)) (m : (ℓ : Loc Cert.KernelIdeal.nD Cert.KernelIdeal.τ Cert.KernelIdeal.sig) → Buf (Elt Bits) ℓ) (ρ : Dev Cert.KernelIdeal.nD → PrngReg) :
    θ_run D (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  subst hD
  exact frame_any m ρ

set_option backward.isDefEq.respectTransparency.types false in
/-- The program's own run does too: it is the same program, read at bit patterns. -/
theorem frame_kernel : Cert.quiescent_Kernel := fun m ρ _ => frame_of (Cert.Kernel.defs (F := Bits)) defs_same m ρ

/-- The reference leaves its arguments and its counters as they were. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof

end
-- ==== Proof.Pure.lean ====
/-
  The mathematics of the dispatch, with no program in it: a token's place among the tokens of its expert, a one-hot table, and
  what a sum against a row or a column of that table selects.
-/
module

public import Idealize.ShloMosaic.Lib.Pointwise
public import Idealize.ShloMosaic.Lib.IndicatorCount

@[expose] public section

noncomputable section

namespace Cert.Dispatch

open Idealize.ShloMosaic

/-! ## Places -/

/-- How many tokens before t go to t's expert. -/
def rk (a : Fin 512 → BitVec 32) (t : Fin 512) : ℕ := (Finset.univ.filter fun x => a t = a x ∧ x < t).card

/-- How many tokens go to expert e. -/
def cnt (a : Fin 512 → BitVec 32) (e : BitVec 32) : ℕ := (Finset.univ.filter fun x => a x = e).card

/-- A token's place is below the number of tokens of its expert. -/
theorem rk_lt (a : Fin 512 → BitVec 32) (t : Fin 512) : rk a t < cnt a (a t) := by
  refine Finset.card_lt_card ⟨fun x hx => ?_, fun h => ?_⟩
  · rw [Finset.mem_filter] at hx ⊢
    exact ⟨hx.1, hx.2.1.symm⟩
  · have := h (Finset.mem_filter.2 ⟨Finset.mem_univ t, rfl⟩)
    exact absurd (Finset.mem_filter.1 this).2.2 (lt_irrefl t)

/-- Of two tokens of one expert the later has the higher place. -/
theorem rk_lt_rk (a : Fin 512 → BitVec 32) {s t : Fin 512} (h : a s = a t) (hst : s < t) : rk a s < rk a t := by
  refine Finset.card_lt_card ⟨fun x hx => ?_, fun hs => ?_⟩
  · rw [Finset.mem_filter] at hx ⊢
    exact ⟨hx.1, h ▸ hx.2.1, hx.2.2.trans hst⟩
  · have := hs (Finset.mem_filter.2 ⟨Finset.mem_univ s, h.symm, hst⟩)
    exact absurd (Finset.mem_filter.1 this).2.2 (lt_irrefl s)

/-- Two tokens of one expert with one place are one token. -/
theorem rk_inj (a : Fin 512 → BitVec 32) {s t : Fin 512} (h : a s = a t) (hr : rk a s = rk a t) : s = t := by
  rcases lt_trichotomy s t with h' | h' | h'
  · exact absurd hr (rk_lt_rk a h h').ne
  · exact h'
  · exact absurd hr (rk_lt_rk a h.symm h').ne'

/-- A rank is at most the number of tokens. -/
theorem rk_le (a : Fin 512 → BitVec 32) (t : Fin 512) : rk a t ≤ 512 :=
  (Finset.card_le_univ _).trans (le_of_eq (Fintype.card_fin 512))

/-- An expert has at most all the tokens. -/
theorem cnt_le (a : Fin 512 → BitVec 32) (e : BitVec 32) : cnt a e ≤ 512 :=
  (Finset.card_le_univ _).trans (le_of_eq (Fintype.card_fin 512))

/-! ## The table -/

/-- Entry (j, r, t) of the table: 1 where token t goes to expert 2 j + r / 80 and has place r % 80 there, else 0. -/
def tab (a : Fin 512 → BitVec 32) (j : ℕ) (r : Fin 160) (t : Fin 512) : EReal :=
  if a t = BitVec.ofNat 32 (j * 2 + r.val / 80) ∧ rk a t = r.val % 80 then 1 else 0

/-- Small numbers are told apart by their words. -/
theorem ofNat_inj {a b : ℕ} (ha : a < 512) (hb : b < 512) (h : BitVec.ofNat 32 a = BitVec.ofNat 32 b) : a = b := by
  have := congrArg BitVec.toNat h
  rw [BitVec.toNat_ofNat, BitVec.toNat_ofNat] at this
  omega

/-- Against a row with a token in it, a sum over the tokens is that token's term. -/
theorem sum_row (a : Fin 512 → BitVec 32) (j : ℕ) (r : Fin 160) (t : Fin 512) (f : Fin 512 → EReal)
    (h : a t = BitVec.ofNat 32 (j * 2 + r.val / 80) ∧ rk a t = r.val % 80) : ∑ s, tab a j r s * f s = f t := by
  rw [Finset.sum_eq_single t]
  · rw [tab, if_pos h, one_mul]
  · intro s _ hs
    rw [tab, if_neg, zero_mul]
    rintro ⟨h1, h2⟩
    exact hs (rk_inj a (h1.trans h.1.symm) (h2.trans h.2.symm))
  · intro h'
    exact absurd (Finset.mem_univ t) h'

/-- Against the column of a token of an expert of block j, a sum over the rows is the term of the token's row. -/
theorem sum_col (a : Fin 512 → BitVec 32) (j : ℕ) (hj : j < 4) (t : Fin 512) (f : Fin 160 → EReal) (e : ℕ) (he : e < 8)
    (hat : a t = BitVec.ofNat 32 e) (hrk : rk a t < 80) :
    ∑ r, tab a j r t * f r = if h : e / 2 = j then f ⟨e % 2 * 80 + rk a t, by omega⟩ else 0 := by
  by_cases h : e / 2 = j
  · rw [dif_pos h, Finset.sum_eq_single (⟨e % 2 * 80 + rk a t, by omega⟩ : Fin 160)]
    · rw [tab, if_pos, one_mul]
      refine ⟨hat.trans (congrArg _ ?_), ?_⟩
      · show e = j * 2 + (e % 2 * 80 + rk a t) / 80
        omega
      · show rk a t = (e % 2 * 80 + rk a t) % 80
        omega
    · intro r _ hr
      rw [tab, if_neg, zero_mul]
      rintro ⟨h1, h2⟩
      have h3 := r.isLt
      have h4 := ofNat_inj (by omega) (by omega) (hat.symm.trans h1)
      refine hr (Fin.ext ?_)
      show r.val = e % 2 * 80 + rk a t
      omega
    · intro h'
      exact absurd (Finset.mem_univ _) h'
  · rw [dif_neg h]
    refine Finset.sum_eq_zero fun r _ => ?_
    rw [tab, if_neg, zero_mul]
    rintro ⟨h1, -⟩
    have h3 := r.isLt
    have h4 := ofNat_inj (by omega) (by omega) (hat.symm.trans h1)
    omega

/-- Against the column of a token of no expert a sum is zero. -/
theorem sum_col_none (a : Fin 512 → BitVec 32) (j : ℕ) (hj : j < 4) (t : Fin 512) (f : Fin 160 → EReal)
    (hat : ∀ e < 8, a t ≠ BitVec.ofNat 32 e) : ∑ r, tab a j r t * f r = 0 := by
  refine Finset.sum_eq_zero fun r _ => ?_
  rw [tab, if_neg, zero_mul]
  rintro ⟨h1, -⟩
  have h3 := r.isLt
  exact hat _ (by omega) h1

/-! ## The words of the program -/

/-- The bitwise and of two bits is 1 when both are. -/
theorem andi_one_iff (x y : BitVec 1) : IntOp.andi x y = 1#1 ↔ x = 1#1 ∧ y = 1#1 := by
  revert x y
  decide

/-- The equality test of two words is 1 when they are equal. -/
theorem cmpi_eq_one_iff (x y : BitVec 32) : IntOp.cmpi .eq x y = 1#1 ↔ x = y := by
  show BitVec.ofBool (x == y) = 1#1 ↔ _
  by_cases h : x = y
  · rw [h, beq_self_eq_true]
    exact ⟨fun _ => rfl, fun _ => rfl⟩
  · rw [beq_eq_false_iff_ne.2 h]
    exact ⟨fun h' => absurd h' (by decide), fun h' => absurd h' h⟩

/-- The signed order test of two token numbers is 1 when the second is smaller. -/
theorem cmpi_sgt_one_iff (t x : Fin 512) : IntOp.cmpi .sgt (BitVec.ofNat 32 t.val) (BitVec.ofNat 32 x.val) = 1#1 ↔ x < t := by
  have ht := t.isLt
  have hx := x.isLt
  have e : ∀ n : ℕ, n < 512 → (BitVec.ofNat 32 n).toInt = n := fun n hn => by
    rw [BitVec.toInt_eq_toNat_of_lt (by rw [BitVec.toNat_ofNat]; omega), BitVec.toNat_ofNat, Nat.mod_eq_of_lt (by omega)]
  show BitVec.ofBool ((BitVec.ofNat 32 x.val).slt (BitVec.ofNat 32 t.val)) = 1#1 ↔ _
  rw [BitVec.slt, e _ hx, e _ ht]
  by_cases h : x < t
  · rw [decide_eq_true (by exact_mod_cast h)]
    exact ⟨fun _ => h, fun _ => rfl⟩
  · rw [decide_eq_false (by exact_mod_cast h)]
    exact ⟨fun h' => absurd h' (by decide), fun h' => absurd h' h⟩

/-- A one-bit word as a real is 1 or 0. -/
theorem uitofp_bit (b : BitVec 1) : FloatOps.uitofp (F := Ideal) FTy.bf16 b = (if b = 1#1 then (1 : EReal) else 0) := by
  rcases BitVec.eq_zero_or_eq_one b with rfl | rfl
  · rw [if_neg (by decide)]
    show (((0#1 : BitVec 1).toNat : ℝ) : EReal) = 0
    simp
  · rw [if_pos rfl]
    show (((1#1 : BitVec 1).toNat : ℝ) : EReal) = 1
    simp

/-- The sum of the program that ranks a token is the token's place. -/
theorem fold_rank (a : Fin 512 → BitVec 32) (t : Fin 512) :
    Finset.fold IntOp.addi (0#32) (fun x => BitVec.setWidth 32 (IntOp.andi (IntOp.cmpi .eq (a t) (a x))
      (IntOp.cmpi .sgt (BitVec.ofNat 32 t.val) (BitVec.ofNat 32 x.val)))) Finset.univ = BitVec.ofNat 32 (rk a t) := by
  rw [IndicatorCount.fold_addi_setWidth_eq_card]
  refine congrArg (fun s : Finset (Fin 512) => BitVec.ofNat 32 s.card) (Finset.filter_congr fun x _ => ?_)
  rw [andi_one_iff, cmpi_eq_one_iff, cmpi_sgt_one_iff]

/-- The sum of the precondition that counts an expert's tokens is their number. -/
theorem fold_count (a : Fin 512 → BitVec 32) (e : BitVec 32) :
    Finset.fold IntOp.addi (0#32) (fun x => BitVec.setWidth 32 (IntOp.cmpi .eq (a x) e)) Finset.univ = BitVec.ofNat 32 (cnt a e) := by
  rw [IndicatorCount.fold_addi_setWidth_eq_card]
  refine congrArg (fun s : Finset (Fin 512) => BitVec.ofNat 32 s.card) (Finset.filter_congr fun x _ => ?_)
  rw [cmpi_eq_one_iff]

/-- The bound of the precondition, as a bound on the number. -/
theorem cnt_le_of_sle (a : Fin 512 → BitVec 32) (e : BitVec 32) (h : IntOp.cmpi .sle (BitVec.ofNat 32 (cnt a e)) 80#32 = 1#1) : cnt a e ≤ 80 := by
  have hc := cnt_le a e
  have e1 : (BitVec.ofNat 32 (cnt a e)).toInt = cnt a e := by
    rw [BitVec.toInt_eq_toNat_of_lt (by rw [BitVec.toNat_ofNat]; omega), BitVec.toNat_ofNat, Nat.mod_eq_of_lt (by omega)]
  by_contra hn
  have h' : BitVec.ofBool ((BitVec.ofNat 32 (cnt a e)).sle 80#32) = 1#1 := h
  rw [BitVec.sle, e1, show (80#32 : BitVec 32).toInt = 80 from by decide, decide_eq_false (by omega)] at h'
  exact absurd h' (by decide)

/-- An entry of the table as the program computes it. -/
theorem entry_eq (a : Fin 512 → BitVec 32) (j : ℕ) (hj : j < 4) (r : Fin 160) (t : Fin 512) :
    FloatOps.uitofp (F := Ideal) FTy.bf16 (IntOp.andi (IntOp.cmpi .eq (a t) (BitVec.ofNat 32 (j * 2 + r.val / 80)))
      (IntOp.cmpi .eq (BitVec.ofNat 32 (rk a t)) (BitVec.ofNat 32 (r.val % 80)))) = tab a j r t := by
  rw [uitofp_bit, tab]
  refine if_congr ?_ rfl rfl
  rw [andi_one_iff, cmpi_eq_one_iff, cmpi_eq_one_iff]
  refine and_congr_right fun _ => ⟨fun h => ?_, fun h => congrArg _ h⟩
  have h1 := rk_le a t
  have := congrArg BitVec.toNat h
  rw [BitVec.toNat_ofNat, BitVec.toNat_ofNat] at this
  omega

/-! ## The experts -/

/-- One coordinate of an expert's result for one token: the second matrix applied to the positive part of the first's result. -/
def mlp (x : Fin 512 → EReal) (w : Fin 512 → Fin 1024 → EReal) (u : Fin 1024 → Fin 512 → EReal) (d : Fin 512) : EReal :=
  ∑ h, max (∑ k, x k * w k h) 0 * u h d

/-- The value for the expert a word names, zero if it names none of the eight. -/
def pick (b : BitVec 32) (f : Fin 8 → EReal) : EReal := if h : b.toNat < 8 then f ⟨b.toNat, h⟩ else 0

/-- A select on a comparison of words is a choice on their numbers. -/
theorem select_eq (b w : BitVec 32) (x y : EReal) : Scalar.select (IntOp.cmpi .eq b w) x y = if b.toNat = w.toNat then x else y := by
  by_cases h : b = w
  · rw [if_pos (congrArg _ h), h, IntOp.cmpi_eq_self]
    exact if_pos rfl
  · rw [if_neg fun h' => h (BitVec.eq_of_toNat_eq h')]
    have e : IntOp.cmpi .eq b w = 0#1 := by
      unfold IntOp.cmpi
      rw [show (b == w) = false from beq_eq_false_iff_ne.2 h]
      rfl
    rw [e]
    exact if_neg (by decide)

/-- The eight selects of the reference, one per expert, are `pick`. -/
theorem selects_eq_pick (b : BitVec 32) (f : Fin 8 → EReal) :
    Scalar.select (IntOp.cmpi .eq b 7#32) (f 7) (Scalar.select (IntOp.cmpi .eq b 6#32) (f 6) (Scalar.select (IntOp.cmpi .eq b 5#32) (f 5)
      (Scalar.select (IntOp.cmpi .eq b 4#32) (f 4) (Scalar.select (IntOp.cmpi .eq b 3#32) (f 3) (Scalar.select (IntOp.cmpi .eq b 2#32) (f 2)
      (Scalar.select (IntOp.cmpi .eq b 1#32) (f 1) (Scalar.select (IntOp.cmpi .eq b 0#32) (f 0) 0))))))) = pick b f := by
  simp only [select_eq, pick]
  by_cases h : b.toNat < 8
  · rw [dif_pos h]
    generalize hn : b.toNat = n at h
    match n, h with
    | 0, _ | 1, _ | 2, _ | 3, _ | 4, _ | 5, _ | 6, _ | 7, _ => rfl
    | n + 8, h => omega
  · rw [dif_neg h]
    have hk : ∀ k, k < 8 → b.toNat ≠ k := fun k hk e => h (e ▸ hk)
    rw [if_neg (hk _ (by decide)), if_neg (hk _ (by decide)), if_neg (hk _ (by decide)), if_neg (hk _ (by decide)), if_neg (hk _ (by decide)),
      if_neg (hk _ (by decide)), if_neg (hk _ (by decide)), if_neg (hk _ (by decide))]

/-- What one block of the table contributes to a token's result: the expert's result, if the block is the one the expert's. -/
theorem block_term (a : Fin 512 → BitVec 32) (hc : ∀ e < 8, cnt a (BitVec.ofNat 32 e) ≤ 80) (j : ℕ) (hj : j < 4) (t d : Fin 512)
    (X : Fin 512 → Fin 512 → EReal) (W : Fin 8 → Fin 512 → Fin 1024 → EReal) (U : Fin 8 → Fin 1024 → Fin 512 → EReal) :
    ∑ r, tab a j r t * mlp (fun k => ∑ s, tab a j r s * X s k) (W ⟨j * 2 + r.val / 80, by have := r.isLt; omega⟩) (U ⟨j * 2 + r.val / 80, by have := r.isLt; omega⟩) d
      = if (a t).toNat / 2 = j then pick (a t) (fun e => mlp (X t) (W e) (U e) d) else 0 := by
  by_cases he : (a t).toNat < 8
  · have hat : a t = BitVec.ofNat 32 (a t).toNat := BitVec.eq_of_toNat_eq (by rw [BitVec.toNat_ofNat, Nat.mod_eq_of_lt (a t).isLt])
    have hrk : rk a t < 80 := (rk_lt a t).trans_le (hat ▸ hc _ he)
    rw [sum_col a j hj t _ _ he hat hrk]
    by_cases h : (a t).toNat / 2 = j
    · rw [dif_pos h, if_pos h, pick, dif_pos he]
      have hd : j * 2 + ((a t).toNat % 2 * 80 + rk a t) / 80 = (a t).toNat := by omega
      have hm : rk a t = ((a t).toNat % 2 * 80 + rk a t) % 80 := by omega
      have e1 : (fun k => ∑ s, tab a j ⟨(a t).toNat % 2 * 80 + rk a t, by omega⟩ s * X s k) = X t :=
        funext fun k => sum_row a j _ t (fun s => X s k) ⟨hat.trans (congrArg _ hd.symm), hm⟩
      have e2 : (⟨j * 2 + ((a t).toNat % 2 * 80 + rk a t) / 80, by omega⟩ : Fin 8) = ⟨(a t).toNat, he⟩ := Fin.ext hd
      show mlp (fun k => ∑ s, tab a j ⟨(a t).toNat % 2 * 80 + rk a t, _⟩ s * X s k) (W ⟨j * 2 + ((a t).toNat % 2 * 80 + rk a t) / 80, _⟩)
        (U ⟨j * 2 + ((a t).toNat % 2 * 80 + rk a t) / 80, _⟩) d = _
      rw [e1, e2]
    · rw [dif_neg h, if_neg h]
  · rw [sum_col_none a j hj t]
    · rw [pick, dif_neg he, ite_self]
    · intro e h8 h
      refine he ?_
      rw [h, BitVec.toNat_ofNat]
      omega

/-- The four blocks, taken from any place of the group on, together give the token's expert's result. -/
theorem four_blocks (p n : ℕ) (hp : p < 4) (v : EReal) (hv : 8 ≤ n → v = 0) :
    (if n / 2 = p % 4 then v else 0) + (if n / 2 = (p + 1) % 4 then v else 0) + (if n / 2 = (p + 2) % 4 then v else 0)
      + (if n / 2 = (p + 3) % 4 then v else 0) = v := by
  by_cases hn : 8 ≤ n
  · rw [hv hn]
    simp only [ite_self, add_zero]
  · have h4 : n / 2 < 4 := by omega
    rcases (by omega : n / 2 = p % 4 ∨ n / 2 = (p + 1) % 4 ∨ n / 2 = (p + 2) % 4 ∨ n / 2 = (p + 3) % 4) with h | h | h | h
    · rw [if_pos h, if_neg (by omega), if_neg (by omega), if_neg (by omega), add_zero, add_zero, add_zero]
    · rw [if_neg (by omega), if_pos h, if_neg (by omega), if_neg (by omega), zero_add, add_zero, add_zero]
    · rw [if_neg (by omega), if_neg (by omega), if_pos h, if_neg (by omega), zero_add, zero_add, add_zero]
    · rw [if_neg (by omega), if_neg (by omega), if_neg (by omega), if_pos h, zero_add, zero_add, zero_add]

end Cert.Dispatch

end
-- ==== Proof.Pays.lean ====
/-
  The kernel's arithmetic read at an index.
-/
module

public import proofs.«01_k».proof.Proof.Run
public import proofs.«01_k».proof.Proof.Pure
public import Idealize.ShloMosaic.Lib.Pointwise

@[expose] public section

noncomputable section

namespace Cert.KernelIdeal.Talk

open Idealize.ShloMosaic
open Idealize.ShloMosaic.TcCoe
open Cert.KernelIdeal.Gen
open Cert.Dispatch

variable (D : Data Ideal)

/-- The whole block of tokens is loaded. -/
theorem xs_at (c : Dev nD) (t d : Fin 512) : (xs D c (ix2 t d) : EReal) = (D.x c : FVec Ideal S512x512 .f32) (ix2 t d) := by
  unfold xs
  refine congrArg (D.x c) (funext fun a => Fin.ext ?_)
  match a with
  | ⟨0, _⟩ => show 0 + 1 * t.val = t.val; omega
  | ⟨1, _⟩ => show 0 + 1 * d.val = d.val; omega

/-- Block k of the table is loaded. -/
theorem ps_at (c : Dev nD) (k : ℕ) (r : Fin 160) (t : Fin 512) :
    (ps D c k (ix3 0 r t) : EReal) = (D.p c : FVec Ideal S4x160x512 .bf16) (ix3 ⟨k % 4, Nat.mod_lt _ (by decide)⟩ r t) := by
  unfold ps
  refine congrArg (D.p c) (funext fun a => Fin.ext ?_)
  match a with
  | ⟨0, _⟩ => show k % 4 + 1 * 0 = k % 4; omega
  | ⟨1, _⟩ => show 0 + 1 * r.val = r.val; omega
  | ⟨2, _⟩ => show 0 + 1 * t.val = t.val; omega

/-- The slab loaded for the first expert is slab 0 of the first weights. -/
theorem wAv_at (c : Dev nD) (r : Fin 512) (t : Fin 1024) : (wAv D c (ix3 0 r t) : EReal) = (D.w1 c : FVec Ideal S2x512x1024 .f32) (ix3 0 r t) := by
  unfold wAv
  refine congrArg (D.w1 c) (funext fun a => Fin.ext ?_)
  match a with
  | ⟨0, _⟩ => show 0 + 1 * 0 = 0; omega
  | ⟨1, _⟩ => show 0 + 1 * r.val = r.val; omega
  | ⟨2, _⟩ => show 0 + 1 * t.val = t.val; omega

/-- The slab loaded for the second expert is slab 1 of the first weights. -/
theorem wBv_at (c : Dev nD) (r : Fin 512) (t : Fin 1024) : (wBv D c (ix3 0 r t) : EReal) = (D.w1 c : FVec Ideal S2x512x1024 .f32) (ix3 1 r t) := by
  unfold wBv
  refine congrArg (D.w1 c) (funext fun a => Fin.ext ?_)
  match a with
  | ⟨0, _⟩ => show 1 + 1 * 0 = 1; omega
  | ⟨1, _⟩ => show 0 + 1 * r.val = r.val; omega
  | ⟨2, _⟩ => show 0 + 1 * t.val = t.val; omega

/-- The slab loaded for the first expert is slab 0 of the second weights. -/
theorem wCv_at (c : Dev nD) (r : Fin 1024) (t : Fin 512) : (wCv D c (ix3 0 r t) : EReal) = (D.w2 c : FVec Ideal S2x1024x512 .f32) (ix3 0 r t) := by
  unfold wCv
  refine congrArg (D.w2 c) (funext fun a => Fin.ext ?_)
  match a with
  | ⟨0, _⟩ => show 0 + 1 * 0 = 0; omega
  | ⟨1, _⟩ => show 0 + 1 * r.val = r.val; omega
  | ⟨2, _⟩ => show 0 + 1 * t.val = t.val; omega

/-- The slab loaded for the second expert is slab 1 of the second weights. -/
theorem wDv_at (c : Dev nD) (r : Fin 1024) (t : Fin 512) : (wDv D c (ix3 0 r t) : EReal) = (D.w2 c : FVec Ideal S2x1024x512 .f32) (ix3 1 r t) := by
  unfold wDv
  refine congrArg (D.w2 c) (funext fun a => Fin.ext ?_)
  match a with
  | ⟨0, _⟩ => show 1 + 1 * 0 = 1; omega
  | ⟨1, _⟩ => show 0 + 1 * r.val = r.val; omega
  | ⟨2, _⟩ => show 0 + 1 * t.val = t.val; omega

/-- The first expert's first matrix is the slab loaded, entry by entry. -/
theorem wA_at (c : Dev nD) (r : Fin 512) (t : Fin 1024) : (wA D c (ix2 r t) : EReal) = wAv D c (ix3 0 r t) := by
  unfold wA
  pointwise [k0_pay5]

/-- The second expert's first matrix is the slab loaded, entry by entry. -/
theorem wB_at (c : Dev nD) (r : Fin 512) (t : Fin 1024) : (wB D c (ix2 r t) : EReal) = wBv D c (ix3 0 r t) := by
  unfold wB
  pointwise [k0_pay6]

/-- The rows a device dispatches are the table's rows applied to its tokens. -/
theorem disp_at (c : Dev nD) (k : ℕ) (r : Fin 160) (d : Fin 512) :
    (disp D c k (ix3 0 r d) : EReal) = ∑ s, ps D c k (ix3 0 r s) * xs D c (ix2 s d) := by
  unfold disp
  pointwise [k0_pay3, k0_pay1]

/-- The two experts of a device: weights by expert. -/
def W1 (c : Dev nD) (b : Fin 2) : Fin 512 → Fin 1024 → EReal := fun k h => (D.w1 c : FVec Ideal S2x512x1024 .f32) (ix3 b k h)
/-- The second matrices of the two experts. -/
def W2 (c : Dev nD) (b : Fin 2) : Fin 1024 → Fin 512 → EReal := fun h d => (D.w2 c : FVec Ideal S2x1024x512 .f32) (ix3 b h d)

/-- A row is in the first half of its block or in the second. -/
theorem half_lt (r : Fin 160) : r.val / 80 < 2 := by
  have := r.isLt
  omega

/-- Each row a device receives goes through the expert of its half. -/
theorem ffn_at (c : Dev nD) (x : Vec Ideal S1x160x512 .bf16) (r : Fin 160) (d : Fin 512) :
    (ffn D c x (ix3 0 r d) : EReal) = mlp (fun k => x (ix3 0 r k)) (W1 D c ⟨r.val / 80, half_lt r⟩) (W2 D c ⟨r.val / 80, half_lt r⟩) d := by
  have hr := r.isLt
  unfold ffn
  pointwise [k0_pay10, k0_pay7, k0_pay8]
  simp only [wA_at, wB_at, wAv_at, wBv_at, wCv_at, wDv_at]
  split
  · next h =>
    have e : (⟨r.val / 80, half_lt r⟩ : Fin 2) = 0 := Fin.ext (by show r.val / 80 = 0; omega)
    rw [e]
    rfl
  · next h =>
    have e : (⟨r.val / 80, half_lt r⟩ : Fin 2) = 1 := Fin.ext (by show r.val / 80 = 1; omega)
    have e' : ∀ q, (⟨80 + (r.val - 80), q⟩ : Fin 160) = r := fun q => Fin.ext (by show 80 + (r.val - 80) = r.val; omega)
    rw [e]
    simp only [e']
    rfl

/-- Dropping the leading axis of a dispatched block gives back the product it was made from. -/
theorem pay3_cast (X : FVec Ideal S512x512 .bf16) (pp : Vec Ideal S1x160x512 .bf16) :
    shapeCast S160x512 (k0_pay3 X pp) Facts₀.shapeCasts_S1x160x512_S160x512
      = truncf .bf16 (matmul dot_S160x512_S512x512_S160x512_1_0_0_1_n_n none (shapeCast S160x512 pp Facts₀.shapeCasts_S1x160x512_S160x512 : FVec Ideal S160x512 .bf16) X
          (constant S160x512 .f32 0x00000000#32)) Facts₀.bitsLt_bf16_f32 := by
  unfold k0_pay3
  dsimp only
  generalize truncf .bf16 (matmul dot_S160x512_S512x512_S160x512_1_0_0_1_n_n none (shapeCast S160x512 pp Facts₀.shapeCasts_S1x160x512_S160x512 : FVec Ideal S160x512 .bf16) X
          (constant S160x512 .f32 0x00000000#32)) Facts₀.bitsLt_bf16_f32 = z
  funext i
  idx_vars i
  pointwise

/-- A leading axis of extent 1 adds no element. -/
theorem cast_up (z : FVec Ideal S160x512 .bf16) (r : Fin 160) (d : Fin 512) :
    z (ix2 r d) = shapeCast S1x160x512 z Facts₀.shapeCasts_S160x512_S1x160x512 (ix3 0 r d) := by
  pointwise

/-- A device's own rows go through its experts as a peer's rows do. -/
theorem own_at (c : Dev nD) (r : Fin 160) (d : Fin 512) :
    (own D c (ix2 r d) : EReal) = ffn D c (disp D c (pos c)) (ix3 0 r d) := by
  unfold own ffn disp
  unfold k0_pay10 k0_pay9
  rw [pay3_cast]
  exact cast_up _ r d

/-- The four terms of a result. -/
theorem out_at (c : Dev nD) (r d : Fin 512) :
    (out D c (ix2 r d) : EReal) = ∑ x, ps D c (pos c) (ix3 0 x r) * own D c (ix2 x d) + ∑ x, ps D c (pos c + 1) (ix3 0 x r) * ret D c 0 (ix3 0 x d)
      + ∑ x, ps D c (pos c + 2) (ix3 0 x r) * ret D c 1 (ix3 0 x d) + ∑ x, ps D c (pos c + 3) (ix3 0 x r) * ret D c 2 (ix3 0 x d) := by
  unfold out
  pointwise [k0_pay14, k0_pay15, k0_pay16]

end Cert.KernelIdeal.Talk

end
-- ==== Proof.Table.lean ====
/-
  The dispatch table that the program computes before the launch, read at an index.
-/
module

public import proofs.«01_k».proof.Proof.Run
public import proofs.«01_k».proof.Pre_fits_KernelIdeal
public import proofs.«01_k».proof.Proof.Pure
public import Idealize.ShloMosaic.Lib.Pointwise
public import Idealize.ShloMosaic.Lib.StableHlo.ReadAt

@[expose] public section

noncomputable section

namespace Cert.KernelIdeal.Talk

open Idealize.ShloMosaic
open Idealize.ShloMosaic.TcCoe
open Cert.KernelIdeal.Gen

variable (m : (ℓ : Loc nD τ sig) → Buf (Elt Ideal) ℓ)

/-- The expert of each of c's tokens. -/
def asg (c : Dev nD) : Fin 512 → BitVec 32 := fun t => (m (c, Proc.tc.devRef main_arg1) : IVec S512 32) (ix1 t)

/-- The table the launch finds, by entry. -/
theorem table_at (c : Dev nD) (j : Fin 4) (r : Fin 160) (t : Fin 512) :
    (V (F := Ideal) m c main_v32 : FVec Ideal S4x160x512 .bf16) (ix3 j r t) = Cert.Dispatch.tab (asg m c) j.val r t := by
  unfold V
  after_reads_at
  rw [← Cert.Dispatch.entry_eq (asg m c) j.val j.isLt r t, ← Cert.Dispatch.fold_rank (asg m c) t]
  rfl

/-- The precondition bounds the number of tokens of each expert. -/
theorem cnt_le [Cert.Pre_fits_KernelIdeal.Facts] (c : Dev nD) (x : FVec Ideal S512x512 .f32) (w : FVec Ideal S2x512x1024 .f32) (u : FVec Ideal S2x1024x512 .f32)
    (h : Cert.Pre_fits_KernelIdeal.fn (F := Ideal) x (m (c, Proc.tc.devRef main_arg1) : IVec S512 32) w u = fun _ => 1#1) (e : ℕ) (he : e < 8) :
    Cert.Dispatch.cnt (asg m c) (BitVec.ofNat 32 e) ≤ 80 := by
  have h1 := congrFun h (ix1 ⟨e, he⟩)
  pointwise [Cert.Pre_fits_KernelIdeal.fn] at h1
  refine Cert.Dispatch.cnt_le_of_sle _ _ ?_
  rw [← Cert.Dispatch.fold_count]
  exact h1

end Cert.KernelIdeal.Talk

end
-- ==== Proof.RefValue.lean ====
/-
  The reference's result read at an index.
-/
module

public import proofs.«01_k».proof.Proof.Gen.ReferenceIdeal.Run
public import proofs.«01_k».proof.Proof.Pure
public import Idealize.ShloMosaic.Lib.Pointwise
public import Idealize.ShloMosaic.Lib.Tactic.CleanTypes

@[expose] public section

noncomputable section

namespace Cert.ReferenceIdeal.Value

open Idealize.ShloMosaic
open Idealize.ShloMosaic.TcCoe
open Cert.Dispatch

variable (m : (ℓ : Loc nD τ sig) → Buf (Elt Ideal) ℓ)

/-- The arguments by coordinate. -/
def X (T : Fin 2048) (k : Fin 512) : EReal := (m ((0 : Dev nD).tc.loc main_arg0) : FVec Ideal S2048x512 .f32) (ix2 T k)
/-- The expert that a token names. -/
def A (T : Fin 2048) : BitVec 32 := (m ((0 : Dev nD).tc.loc main_arg1) : IVec S2048 32) (ix1 T)
/-- The first matrix of an expert. -/
def W (e : Fin 8) (k : Fin 512) (h : Fin 1024) : EReal := (m ((0 : Dev nD).tc.loc main_arg2) : FVec Ideal S8x512x1024 .f32) (ix3 e k h)
/-- The second matrix of an expert. -/
def U (e : Fin 8) (h : Fin 1024) (d : Fin 512) : EReal := (m ((0 : Dev nD).tc.loc main_arg3) : FVec Ideal S8x1024x512 .f32) (ix3 e h d)

set_option maxHeartbeats 2000000 in
set_option maxRecDepth 16384 in
/-- The reference gives each token its expert's result. -/
theorem res_at (T : Fin 2048) (d : Fin 512) :
    (res_main_v96 (F := Ideal) m 0 : FVec Ideal S2048x512 .f32) (ix2 T d) = pick (A m T) (fun e => mlp (X m T) (W m e) (U m e) d) := by
  rw [← selects_eq_pick]
  unfold res_main_v96
  clean_types
  pointwise
  rfl

end Cert.ReferenceIdeal.Value

end
-- ==== Proof.Value.lean ====
/-
  The kernel's result and the reference's are one function of the whole arrays.
-/
module

public import proofs.«01_k».proof.Defs
public import proofs.«01_k».proof.Proof.Run
public import proofs.«01_k».proof.Proof.Pays
public import proofs.«01_k».proof.Proof.Table
public import proofs.«01_k».proof.Proof.RefValue

@[expose] public section

noncomputable section

namespace Cert.KernelIdeal.Talk

open Idealize.ShloMosaic
open Idealize.ShloMosaic.TcCoe
open Cert.KernelIdeal.Gen
open Cert.Dispatch

variable (m : (ℓ : Loc nD τ sig) → Buf (Elt Ideal) ℓ)

/-- The launch stages a device's tokens whole. -/
theorem x_at (c : Dev nD) (t k : Fin 512) :
    ((Dm m).x c : FVec Ideal S512x512 .f32) (ix2 t k) = (m ((c.tc : Thread nD τ).loc main_arg0) : FVec Ideal S512x512 .f32) (ix2 t k) := by
  rw [← V_main_arg0 (F := Ideal) m c]
  refine congrArg (V (F := Ideal) m c main_arg0) (funext fun a => Fin.ext ?_)
  match a with
  | ⟨0, _⟩ => show 0 * 512 + 1 * t.val = t.val; omega
  | ⟨1, _⟩ => show 0 * 512 + 1 * k.val = k.val; omega

/-- The launch stages a device's table whole. -/
theorem p_at (c : Dev nD) (j : Fin 4) (r : Fin 160) (t : Fin 512) :
    ((Dm m).p c : FVec Ideal S4x160x512 .bf16) (ix3 j r t) = tab (asg m c) j.val r t := by
  rw [← table_at m c j r t]
  refine congrArg (V (F := Ideal) m c main_v32) (funext fun a => Fin.ext ?_)
  match a with
  | ⟨0, _⟩ => show 0 * 4 + 1 * j.val = j.val; omega
  | ⟨1, _⟩ => show 0 * 160 + 1 * r.val = r.val; omega
  | ⟨2, _⟩ => show 0 * 512 + 1 * t.val = t.val; omega

/-- The first weights that the kernel uses are the ones given. -/
theorem w1_at (c : Dev nD) (b : Fin 2) (k : Fin 512) (h : Fin 1024) :
    W1 (Dm m) c b k h = (m ((c.tc : Thread nD τ).loc main_arg2) : FVec Ideal S2x512x1024 .f32) (ix3 b k h) := by
  rw [← V_main_arg2 (F := Ideal) m c]
  rfl

/-- The second weights that the kernel uses are the ones given. -/
theorem w2_at (c : Dev nD) (b : Fin 2) (h : Fin 1024) (d : Fin 512) :
    W2 (Dm m) c b h d = (m ((c.tc : Thread nD τ).loc main_arg3) : FVec Ideal S2x1024x512 .f32) (ix3 b h d) := by
  rw [← V_main_arg3 (F := Ideal) m c]
  rfl

/-- A device's tokens. -/
def Xc (c : Dev nD) (t k : Fin 512) : EReal := (m ((c.tc : Thread nD τ).loc main_arg0) : FVec Ideal S512x512 .f32) (ix2 t k)

section Term

variable (W : Fin 8 → Fin 512 → Fin 1024 → EReal) (U : Fin 8 → Fin 1024 → Fin 512 → EReal)
variable (hW : ∀ (c : Dev nD) (b : Fin 2) k h, W1 (Dm m) c b k h = W ⟨pos c * 2 + b.val, by have := pos_lt c; omega⟩ k h)
variable (hU : ∀ (c : Dev nD) (b : Fin 2) h d, W2 (Dm m) c b h d = U ⟨pos c * 2 + b.val, by have := pos_lt c; omega⟩ h d)

include hW hU in
/-- What a device adds to a token's result for the rows that the device c' at place q of the group works on. -/
theorem term_at (c c' : Dev nD) (q : ℕ) (hq : pos c' = q % 4) (hc : ∀ e < 8, cnt (asg m c) (BitVec.ofNat 32 e) ≤ 80) (t d : Fin 512) :
    ∑ x, (ps (Dm m) c q (ix3 0 x t) : EReal) * ffn (Dm m) c' (disp (Dm m) c q) (ix3 0 x d)
      = if (asg m c t).toNat / 2 = q % 4 then pick (asg m c t) (fun e => mlp (Xc m c t) (W e) (U e) d) else 0 := by
  rw [← block_term (asg m c) hc (q % 4) (Nat.mod_lt _ (by decide)) t d (Xc m c) W U]
  refine Finset.sum_congr rfl fun r _ => ?_
  rw [ffn_at, ps_at, p_at]
  have e1 : (fun k => (disp (Dm m) c q (ix3 0 r k) : EReal)) = fun k => ∑ s, tab (asg m c) (q % 4) r s * Xc m c s k := funext fun k => by
    rw [disp_at]
    refine Finset.sum_congr rfl fun s _ => ?_
    rw [ps_at, p_at, xs_at, x_at]
    rfl
  have e2 : W1 (Dm m) c' ⟨r.val / 80, half_lt r⟩ = W ⟨q % 4 * 2 + r.val / 80, by have := r.isLt; omega⟩ := funext fun k => funext fun h => by
    rw [hW]
    simp only [hq]
  have e3 : W2 (Dm m) c' ⟨r.val / 80, half_lt r⟩ = U ⟨q % 4 * 2 + r.val / 80, by have := r.isLt; omega⟩ := funext fun k => funext fun h => by
    rw [hU]
    simp only [hq]
  rw [e2, e3]
  exact congrArg (fun z => tab (asg m c) (q % 4) r t * mlp z _ _ d) e1

include hW hU in
/-- The kernel gives each token its expert's result. -/
theorem out_eq (c : Dev nD) (hc : ∀ e < 8, cnt (asg m c) (BitVec.ofNat 32 e) ≤ 80) (t d : Fin 512) :
    (out (Dm m) c (ix2 t d) : EReal) = pick (asg m c t) (fun e => mlp (Xc m c t) (W e) (U e) d) := by
  have hp := pos_lt c
  rw [out_at]
  have h0 : ∑ x, (ps (Dm m) c (pos c) (ix3 0 x t) : EReal) * own (Dm m) c (ix2 x d) = _ :=
    (Finset.sum_congr rfl fun x _ => by rw [own_at]).trans (term_at m W U hW hU c c (pos c) (Nat.mod_eq_of_lt hp).symm hc t d)
  have h1 : ∑ x, (ps (Dm m) c (pos c + 1) (ix3 0 x t) : EReal) * ret (Dm m) c 0 (ix3 0 x d) = _ :=
    term_at m W U hW hU c (peer 1 c) (pos c + 1) (pos_peer 1 c) hc t d
  have h2 : ∑ x, (ps (Dm m) c (pos c + 2) (ix3 0 x t) : EReal) * ret (Dm m) c 1 (ix3 0 x d) = _ :=
    term_at m W U hW hU c (peer 2 c) (pos c + 2) (pos_peer 2 c) hc t d
  have h3 : ∑ x, (ps (Dm m) c (pos c + 3) (ix3 0 x t) : EReal) * ret (Dm m) c 2 (ix3 0 x d) = _ :=
    term_at m W U hW hU c (peer 3 c) (pos c + 3) (pos_peer 3 c) hc t d
  rw [h0, h1, h2, h3]
  refine four_blocks (pos c) (asg m c t).toNat hp _ fun h8 => ?_
  rw [pick, dif_neg (by omega)]

end Term

end Cert.KernelIdeal.Talk

namespace Cert.Proof

open Idealize.ShloMosaic Idealize.SL.Sem
open Idealize.ShloMosaic.TcCoe
open Cert.Dispatch Cert.KernelIdeal.Talk

/-- The place of a device in its group is its block along the mesh's last axis. -/
theorem lin_eq (c : Dev Cert.KernelIdeal.nD) : Layout.meshLin [2, 4, 4] c.val [2] = pos c := by
  show c.val / 1 % 4 * 1 + 0 = c.val % 4
  omega

/-- Under the bound on each expert's tokens the kernel's result is the reference's, block by block. -/
theorem algebraic [Cert.Pre_fits_KernelIdeal.Facts] : Cert.algebraic_KernelIdeal_ReferenceIdeal_pre_fits_KernelIdeal := by
  intro m g m' g' hpre hargs
  refine ⟨Cert.ReferenceIdeal.Value.res_main_v96 m' 0, ?_, ?_⟩
  · refine (θ_run Cert.KernelIdeal.defs _ _).mono (fun r h c => ⟨?_, (h.1 c).1, (h.1 c).2.1, (h.1 c).2.2.1, (h.1 c).2.2.2.1⟩)
      (Cert.KernelIdeal.Talk.run_main (F := Ideal) m g)
    refine (h.1 c).2.2.2.2.trans ?_
    funext i
    obtain ⟨t, d, rfl⟩ : ∃ (t d : Fin 512), i = ix2 t d := ⟨i 0, i 1, eq_ix2 i⟩
    have hcnt : ∀ e < 8, cnt (asg m c) (BitVec.ofNat 32 e) ≤ 80 := cnt_le m c _ _ _ (hpre c)
    have hT : pos c * 512 + t.val < 2048 := by have := pos_lt c; omega
    refine (out_eq m (Cert.ReferenceIdeal.Value.W m') (Cert.ReferenceIdeal.Value.U m') ?_ ?_ c hcnt t d).trans ?_
    · intro c' b k h
      rw [w1_at, (hargs c').2.2.1]
      refine congrArg (m' _) (funext fun a => Fin.ext ?_)
      match a with
      | ⟨0, _⟩ => exact congrArg (fun z => z * 2 + b.val) (lin_eq c')
      | ⟨1, _⟩ => show 0 * 512 + k.val = k.val; omega
      | ⟨2, _⟩ => show 0 * 1024 + h.val = h.val; omega
    · intro c' b h d
      rw [w2_at, (hargs c').2.2.2]
      refine congrArg (m' _) (funext fun a => Fin.ext ?_)
      match a with
      | ⟨0, _⟩ => exact congrArg (fun z => z * 2 + b.val) (lin_eq c')
      | ⟨1, _⟩ => show 0 * 1024 + h.val = h.val; omega
      | ⟨2, _⟩ => show 0 * 512 + d.val = d.val; omega
    · have ea : asg m c t = Cert.ReferenceIdeal.Value.A m' ⟨pos c * 512 + t.val, hT⟩ := by
        unfold asg
        refine (congrFun (hargs c).2.1 (ix1 t)).trans (congrArg (m' _) (funext fun a => Fin.ext ?_))
        match a with
        | ⟨0, _⟩ => exact congrArg (fun z => z * 512 + t.val) (lin_eq c)
      have ex : Xc m c t = Cert.ReferenceIdeal.Value.X m' ⟨pos c * 512 + t.val, hT⟩ := funext fun k => by
        unfold Xc
        refine (congrFun (hargs c).1 (ix2 t k)).trans (congrArg (m' _) (funext fun a => Fin.ext ?_))
        match a with
        | ⟨0, _⟩ => exact congrArg (fun z => z * 512 + t.val) (lin_eq c)
        | ⟨1, _⟩ => show 0 * 512 + k.val = k.val; omega
      rw [ea, ex, ← Cert.ReferenceIdeal.Value.res_at]
      refine congrArg (Cert.ReferenceIdeal.Value.res_main_v96 m' 0) (funext fun a => Fin.ext ?_)
      match a with
      | ⟨0, _⟩ => exact (congrArg (fun z => z * 512 + t.val) (lin_eq c)).symm
      | ⟨1, _⟩ => show d.val = 0 * 512 + d.val; omega
  · exact (θ_run Cert.ReferenceIdeal.defs _ _).mono (fun r h => h 0) (Cert.ReferenceIdeal.Value.run m' g')

end Cert.Proof

end
-- ==== Proof.lean ====
/-
  The claim: the frames of the two readings of the program and of the reference, and the equality of the program's result with
  the reference's.
-/
module

public import proofs.«01_k».proof.Defs
public import proofs.«01_k».proof.Proof.Frames
public import proofs.«01_k».proof.Proof.Value

@[expose] public section

noncomputable section

namespace Cert.Proof

open Idealize.ShloMosaic Idealize.SL.Sem

/-- The shape relations of the precondition on the devices' arrays. -/
theorem fits_kernel : Cert.Pre_fits_KernelIdeal.Facts :=
  ⟨by decide, by decide, by decide, by decide, by decide, by decide, by decide, by decide⟩

/-- The shape relations of the precondition on the whole arrays. -/
theorem fits_reference : Cert.Pre_fits_ReferenceIdeal.Facts :=
  ⟨by decide, by decide, by decide, by decide, by decide, by decide, by decide, by decide⟩

/-- Every claim of the certificate. -/
theorem claim : Cert.Claim :=
  ⟨Cert.Kernel.Gen.facts, Cert.KernelIdeal.Gen.facts, Cert.ReferenceIdeal.Gen.facts, fits_kernel, fits_reference, frame_kernel, frame_kernelIdeal,
    fun m g _ => frame_kernelIdeal m g trivial, frame_reference, fun m g _ => frame_reference m g trivial, trivial,
    letI := fits_kernel; algebraic⟩

end Cert.Proof

end
